-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![16384, 1024]⟩ ⟨2, ![16384, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S8x512x1024 : Shape := ⟨3, ![8, 512, 1024]⟩
abbrev S4x512x1024 : Shape := ⟨3, ![4, 512, 1024]⟩
abbrev S8 : Shape := ⟨1, ![8]⟩
abbrev S4 : Shape := ⟨1, ![4]⟩
abbrev S_ : Shape := ⟨0, ![]⟩
abbrev S1 : Shape := ⟨1, ![1]⟩
abbrev S512x1024 : Shape := ⟨2, ![512, 1024]⟩
abbrev S1x512x1024 : Shape := ⟨3, ![1, 512, 1024]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .f32⟩
  | .hbm, ⟨2, _⟩ => ⟨S16384x1024, .f32⟩
  | .local _ .vmem, ⟨0, _⟩ => ⟨S8x512x1024, .f32⟩
  | .local _ .vmem, ⟨1, _⟩ => ⟨S8x512x1024, .f32⟩
  | .local _ .vmem, ⟨2, _⟩ => ⟨S4x512x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v32 : BitVec 32 := Scalar.muli v2 c4_i32_20
  let v33 : BitVec 32 := Scalar.addi c0_i32 v32
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v29 : BitVec 32 := Scalar.subi c1_i32_16 v5
  let c2_i32_21 : BitVec 32 := 2#32
  let v34 : BitVec 32 := Scalar.muli v29 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev2 (d0 : Dev nD) : Nat :=
  let c0_i32_25 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_17 v2
  let c4_i32_24 : BitVec 32 := 4#32
  let v38 : BitVec 32 := Scalar.muli v30 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v42 : BitVec 32 := Scalar.muli v8 c1_i32_27
  let v43 : BitVec 32 := Scalar.addi v41 v42
  v43.toNat
def k0_dev3 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v44 : BitVec 32 := Scalar.muli v2 c4_i32_29
  let v45 : BitVec 32 := Scalar.addi c0_i32_30 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v46 : BitVec 32 := Scalar.muli v5 c2_i32_31
  let v47 : BitVec 32 := Scalar.addi v45 v46
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_18 v8
  let c1_i32_32 : BitVec 32 := 1#32
  let v48 : BitVec 32 := Scalar.muli v31 c1_i32_32
  let v49 : BitVec 32 := Scalar.addi v47 v48
  v49.toNat
def k0_off1 (d0 : Dev nD) (c0_i32_34 : BitVec 32) : Fin 2 → Nat :=
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v24 : BitVec 32 := Scalar.muli v13 c4096_i32
  let v51 : BitVec 32 := Scalar.addi v24 c0_i32_34
  let c0_i32_43 : BitVec 32 := 0#32
  ![v51.toNat, 0]
def k0_off2 (d0 : Dev nD) (c0_i32_33 : BitVec 32) : Fin 3 → Nat :=
  let c0_i32_36 : BitVec 32 := 0#32
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v24 : BitVec 32 := Scalar.muli v13 c4096_i32
  let v50 : BitVec 32 := Scalar.addi v24 c0_i32_33
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_3 v5
  let c1024_i32_4 : BitVec 32 := 1024#32
  let v11 : BitVec 32 := Scalar.muli v10 c1024_i32_4
  ![0, v50.toNat, v11.toNat]
def k0_dev4 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v53 : BitVec 32 := Scalar.muli v2 c4_i32_39
  let v54 : BitVec 32 := Scalar.addi c0_i32_40 v53
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v52 : BitVec 32 := Scalar.subi c1_i32_35 v5
  let c2_i32_41 : BitVec 32 := 2#32
  let v55 : BitVec 32 := Scalar.muli v52 c2_i32_41
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v57 : BitVec 32 := Scalar.muli v8 c1_i32_42
  let v58 : BitVec 32 := Scalar.addi v56 v57
  v58.toNat
def k0_dev5 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v69 : BitVec 32 := Scalar.muli v2 c4_i32_49
  let v70 : BitVec 32 := Scalar.addi c0_i32_50 v69
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.subi c1_i32_45 v5
  let c2_i32_51 : BitVec 32 := 2#32
  let v71 : BitVec 32 := Scalar.muli v68 c2_i32_51
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v73 : BitVec 32 := Scalar.muli v8 c1_i32_52
  let v74 : BitVec 32 := Scalar.addi v72 v73
  v74.toNat
def k0_dev6 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v85 : BitVec 32 := Scalar.muli v2 c4_i32_60
  let v86 : BitVec 32 := Scalar.addi c0_i32_61 v85
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v84 : BitVec 32 := Scalar.subi c1_i32_56 v5
  let c2_i32_62 : BitVec 32 := 2#32
  let v87 : BitVec 32 := Scalar.muli v84 c2_i32_62
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v89 : BitVec 32 := Scalar.muli v8 c1_i32_63
  let v90 : BitVec 32 := Scalar.addi v88 v89
  v90.toNat
def k0_dev7 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v101 : BitVec 32 := Scalar.muli v2 c4_i32_70
  let v102 : BitVec 32 := Scalar.addi c0_i32_71 v101
  let c1_i32_66 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v100 : BitVec 32 := Scalar.subi c1_i32_66 v5
  let c2_i32_72 : BitVec 32 := 2#32
  let v103 : BitVec 32 := Scalar.muli v100 c2_i32_72
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v105 : BitVec 32 := Scalar.muli v8 c1_i32_73
  let v106 : BitVec 32 := Scalar.addi v104 v105
  v106.toNat
def k0_dev8 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v117 : BitVec 32 := Scalar.muli v2 c4_i32_80
  let v118 : BitVec 32 := Scalar.addi c0_i32_81 v117
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v116 : BitVec 32 := Scalar.subi c1_i32_76 v5
  let c2_i32_82 : BitVec 32 := 2#32
  let v119 : BitVec 32 := Scalar.muli v116 c2_i32_82
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v121 : BitVec 32 := Scalar.muli v8 c1_i32_83
  let v122 : BitVec 32 := Scalar.addi v120 v121
  v122.toNat
def k0_dev9 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v133 : BitVec 32 := Scalar.muli v2 c4_i32_89
  let v134 : BitVec 32 := Scalar.addi c0_i32_90 v133
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.subi c1_i32_86 v5
  let c2_i32_91 : BitVec 32 := 2#32
  let v135 : BitVec 32 := Scalar.muli v132 c2_i32_91
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v137 : BitVec 32 := Scalar.muli v8 c1_i32_92
  let v138 : BitVec 32 := Scalar.addi v136 v137
  v138.toNat
def k0_dev10 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v149 : BitVec 32 := Scalar.muli v2 c4_i32_98
  let v150 : BitVec 32 := Scalar.addi c0_i32_99 v149
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v148 : BitVec 32 := Scalar.subi c1_i32_95 v5
  let c2_i32_100 : BitVec 32 := 2#32
  let v151 : BitVec 32 := Scalar.muli v148 c2_i32_100
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v153 : BitVec 32 := Scalar.muli v8 c1_i32_101
  let v154 : BitVec 32 := Scalar.addi v152 v153
  v154.toNat
def k0_dev11 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v165 : BitVec 32 := Scalar.muli v2 c4_i32_107
  let v166 : BitVec 32 := Scalar.addi c0_i32_108 v165
  let c1_i32_104 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v164 : BitVec 32 := Scalar.subi c1_i32_104 v5
  let c2_i32_109 : BitVec 32 := 2#32
  let v167 : BitVec 32 := Scalar.muli v164 c2_i32_109
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v169 : BitVec 32 := Scalar.muli v8 c1_i32_110
  let v170 : BitVec 32 := Scalar.addi v168 v169
  v170.toNat
def k0_dev12 (d0 : Dev nD) : Nat :=
  let c0_i32_129 : BitVec 32 := 0#32
  let c1_i32_125 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v194 : BitVec 32 := Scalar.subi c1_i32_125 v2
  let c4_i32_128 : BitVec 32 := 4#32
  let v195 : BitVec 32 := Scalar.muli v194 c4_i32_128
  let v196 : BitVec 32 := Scalar.addi c0_i32_129 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v197 : BitVec 32 := Scalar.muli v5 c2_i32_130
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v199 : BitVec 32 := Scalar.muli v8 c1_i32_131
  let v200 : BitVec 32 := Scalar.addi v198 v199
  v200.toNat
def k0_dev13 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v210 : BitVec 32 := Scalar.muli v2 c4_i32_139
  let v211 : BitVec 32 := Scalar.addi c0_i32_140 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v212 : BitVec 32 := Scalar.muli v5 c2_i32_141
  let v213 : BitVec 32 := Scalar.addi v211 v212
  let c1_i32_136 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v209 : BitVec 32 := Scalar.subi c1_i32_136 v8
  let c1_i32_142 : BitVec 32 := 1#32
  let v214 : BitVec 32 := Scalar.muli v209 c1_i32_142
  let v215 : BitVec 32 := Scalar.addi v213 v214
  v215.toNat
def k0_dev14 (d0 : Dev nD) : Nat :=
  let c0_i32_170 : BitVec 32 := 0#32
  let c1_i32_166 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v246 : BitVec 32 := Scalar.subi c1_i32_166 v2
  let c4_i32_169 : BitVec 32 := 4#32
  let v247 : BitVec 32 := Scalar.muli v246 c4_i32_169
  let v248 : BitVec 32 := Scalar.addi c0_i32_170 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v249 : BitVec 32 := Scalar.muli v5 c2_i32_171
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v251 : BitVec 32 := Scalar.muli v8 c1_i32_172
  let v252 : BitVec 32 := Scalar.addi v250 v251
  v252.toNat
def k0_dev15 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v262 : BitVec 32 := Scalar.muli v2 c4_i32_180
  let v263 : BitVec 32 := Scalar.addi c0_i32_181 v262
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v264 : BitVec 32 := Scalar.muli v5 c2_i32_182
  let v265 : BitVec 32 := Scalar.addi v263 v264
  let c1_i32_177 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v261 : BitVec 32 := Scalar.subi c1_i32_177 v8
  let c1_i32_183 : BitVec 32 := 1#32
  let v266 : BitVec 32 := Scalar.muli v261 c1_i32_183
  let v267 : BitVec 32 := Scalar.addi v265 v266
  v267.toNat
def k0_off3 (d0 : Dev nD) (c0_i32_206 : BitVec 32) : Fin 2 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4096_i32_13 : BitVec 32 := 4096#32
  let v25 : BitVec 32 := Scalar.muli v16 c4096_i32_13
  let v296 : BitVec 32 := Scalar.addi v25 c0_i32_206
  let c0_i32_214 : BitVec 32 := 0#32
  ![v296.toNat, 0]
def k0_dev16 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v298 : BitVec 32 := Scalar.muli v2 c4_i32_210
  let v299 : BitVec 32 := Scalar.addi c0_i32_211 v298
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v300 : BitVec 32 := Scalar.muli v5 c2_i32_212
  let v301 : BitVec 32 := Scalar.addi v299 v300
  let c1_i32_207 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v297 : BitVec 32 := Scalar.subi c1_i32_207 v8
  let c1_i32_213 : BitVec 32 := 1#32
  let v302 : BitVec 32 := Scalar.muli v297 c1_i32_213
  let v303 : BitVec 32 := Scalar.addi v301 v302
  v303.toNat
def k0_off4 (d0 : Dev nD) (c0_i32_228 : BitVec 32) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let v19 : BitVec 32 := Scalar.addi v17 v18
  let c4096_i32_14 : BitVec 32 := 4096#32
  let v26 : BitVec 32 := Scalar.muli v19 c4096_i32_14
  let v324 : BitVec 32 := Scalar.addi v26 c0_i32_228
  let c512_i32_236 : BitVec 32 := 512#32
  ![v324.toNat, 512]
def k0_dev17 (d0 : Dev nD) : Nat :=
  let c0_i32_233 : BitVec 32 := 0#32
  let c1_i32_229 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v325 : BitVec 32 := Scalar.subi c1_i32_229 v2
  let c4_i32_232 : BitVec 32 := 4#32
  let v326 : BitVec 32 := Scalar.muli v325 c4_i32_232
  let v327 : BitVec 32 := Scalar.addi c0_i32_233 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_234 : BitVec 32 := 2#32
  let v328 : BitVec 32 := Scalar.muli v5 c2_i32_234
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v330 : BitVec 32 := Scalar.muli v8 c1_i32_235
  let v331 : BitVec 32 := Scalar.addi v329 v330
  v331.toNat
def k0_off5 (d0 : Dev nD) (c0_i32_254 : BitVec 32) : Fin 3 → Nat :=
  let c0_i32_260 : BitVec 32 := 0#32
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v24 : BitVec 32 := Scalar.muli v13 c4096_i32
  let v352 : BitVec 32 := Scalar.addi v24 c0_i32_254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v9 : BitVec 32 := Scalar.muli v5 c1024_i32
  ![0, v352.toNat, v9.toNat]
def k0_dev18 (d0 : Dev nD) : Nat :=
  let c0_i32_282 : BitVec 32 := 0#32
  let c1_i32_278 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v380 : BitVec 32 := Scalar.subi c1_i32_278 v2
  let c4_i32_281 : BitVec 32 := 4#32
  let v381 : BitVec 32 := Scalar.muli v380 c4_i32_281
  let v382 : BitVec 32 := Scalar.addi c0_i32_282 v381
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v383 : BitVec 32 := Scalar.muli v5 c2_i32_283
  let v384 : BitVec 32 := Scalar.addi v382 v383
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v385 : BitVec 32 := Scalar.muli v8 c1_i32_284
  let v386 : BitVec 32 := Scalar.addi v384 v385
  v386.toNat
def k0_dev19 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v396 : BitVec 32 := Scalar.muli v2 c4_i32_292
  let v397 : BitVec 32 := Scalar.addi c0_i32_293 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v398 : BitVec 32 := Scalar.muli v5 c2_i32_294
  let v399 : BitVec 32 := Scalar.addi v397 v398
  let c1_i32_289 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v395 : BitVec 32 := Scalar.subi c1_i32_289 v8
  let c1_i32_295 : BitVec 32 := 1#32
  let v400 : BitVec 32 := Scalar.muli v395 c1_i32_295
  let v401 : BitVec 32 := Scalar.addi v399 v400
  v401.toNat
def k0_dev20 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v432 : BitVec 32 := Scalar.muli v2 c4_i32_322
  let v433 : BitVec 32 := Scalar.addi c0_i32_323 v432
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v434 : BitVec 32 := Scalar.muli v5 c2_i32_324
  let v435 : BitVec 32 := Scalar.addi v433 v434
  let c1_i32_319 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v431 : BitVec 32 := Scalar.subi c1_i32_319 v8
  let c1_i32_325 : BitVec 32 := 1#32
  let v436 : BitVec 32 := Scalar.muli v431 c1_i32_325
  let v437 : BitVec 32 := Scalar.addi v435 v436
  v437.toNat
def k0_dev21 (d0 : Dev nD) : Nat :=
  let c0_i32_345 : BitVec 32 := 0#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v459 : BitVec 32 := Scalar.subi c1_i32_341 v2
  let c4_i32_344 : BitVec 32 := 4#32
  let v460 : BitVec 32 := Scalar.muli v459 c4_i32_344
  let v461 : BitVec 32 := Scalar.addi c0_i32_345 v460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_346 : BitVec 32 := 2#32
  let v462 : BitVec 32 := Scalar.muli v5 c2_i32_346
  let v463 : BitVec 32 := Scalar.addi v461 v462
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_347 : BitVec 32 := 1#32
  let v464 : BitVec 32 := Scalar.muli v8 c1_i32_347
  let v465 : BitVec 32 := Scalar.addi v463 v464
  v465.toNat
def k0_off6 (d0 : Dev nD) (c0_i32_405 : BitVec 32) : Fin 2 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4096_i32_13 : BitVec 32 := 4096#32
  let v25 : BitVec 32 := Scalar.muli v16 c4096_i32_13
  let v527 : BitVec 32 := Scalar.addi v25 c0_i32_405
  let c0_i32_421 : BitVec 32 := 0#32
  ![v527.toNat, 0]
def k0_off7 (d0 : Dev nD) (c0_i32_405 : BitVec 32) : Fin 3 → Nat :=
  let c0_i32_422 : BitVec 32 := 0#32
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4096_i32_13 : BitVec 32 := 4096#32
  let v25 : BitVec 32 := Scalar.muli v16 c4096_i32_13
  let v527 : BitVec 32 := Scalar.addi v25 c0_i32_405
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v9 : BitVec 32 := Scalar.muli v5 c1024_i32
  ![0, v527.toNat, v9.toNat]
def k0_off8 (d0 : Dev nD) (c0_i32_406 : BitVec 32) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let v19 : BitVec 32 := Scalar.addi v17 v18
  let c4096_i32_14 : BitVec 32 := 4096#32
  let v26 : BitVec 32 := Scalar.muli v19 c4096_i32_14
  let v528 : BitVec 32 := Scalar.addi v26 c0_i32_406
  let c0_i32_431 : BitVec 32 := 0#32
  ![v528.toNat, 0]
def k0_off9 (d0 : Dev nD) (c0_i32_406 : BitVec 32) : Fin 3 → Nat :=
  let c0_i32_432 : BitVec 32 := 0#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let v19 : BitVec 32 := Scalar.addi v17 v18
  let c4096_i32_14 : BitVec 32 := 4096#32
  let v26 : BitVec 32 := Scalar.muli v19 c4096_i32_14
  let v528 : BitVec 32 := Scalar.addi v26 c0_i32_406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v9 : BitVec 32 := Scalar.muli v5 c1024_i32
  ![0, v528.toNat, v9.toNat]
def k0_dev22 (d0 : Dev nD) : Nat :=
  let c0_i32_477 : BitVec 32 := 0#32
  let c1_i32_473 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v602 : BitVec 32 := Scalar.subi c1_i32_473 v2
  let c4_i32_476 : BitVec 32 := 4#32
  let v603 : BitVec 32 := Scalar.muli v602 c4_i32_476
  let v604 : BitVec 32 := Scalar.addi c0_i32_477 v603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_478 : BitVec 32 := 2#32
  let v605 : BitVec 32 := Scalar.muli v5 c2_i32_478
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_479 : BitVec 32 := 1#32
  let v607 : BitVec 32 := Scalar.muli v8 c1_i32_479
  let v608 : BitVec 32 := Scalar.addi v606 v607
  v608.toNat
def k0_dev23 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v618 : BitVec 32 := Scalar.muli v2 c4_i32_487
  let v619 : BitVec 32 := Scalar.addi c0_i32_488 v618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_489 : BitVec 32 := 2#32
  let v620 : BitVec 32 := Scalar.muli v5 c2_i32_489
  let v621 : BitVec 32 := Scalar.addi v619 v620
  let c1_i32_484 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v617 : BitVec 32 := Scalar.subi c1_i32_484 v8
  let c1_i32_490 : BitVec 32 := 1#32
  let v622 : BitVec 32 := Scalar.muli v617 c1_i32_490
  let v623 : BitVec 32 := Scalar.addi v621 v622
  v623.toNat
def k0_dev24 (d0 : Dev nD) : Nat :=
  let c0_i32_518 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_517 : BitVec 32 := 4#32
  let v654 : BitVec 32 := Scalar.muli v2 c4_i32_517
  let v655 : BitVec 32 := Scalar.addi c0_i32_518 v654
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_519 : BitVec 32 := 2#32
  let v656 : BitVec 32 := Scalar.muli v5 c2_i32_519
  let v657 : BitVec 32 := Scalar.addi v655 v656
  let c1_i32_514 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.subi c1_i32_514 v8
  let c1_i32_520 : BitVec 32 := 1#32
  let v658 : BitVec 32 := Scalar.muli v653 c1_i32_520
  let v659 : BitVec 32 := Scalar.addi v657 v658
  v659.toNat
def k0_dev25 (d0 : Dev nD) : Nat :=
  let c0_i32_540 : BitVec 32 := 0#32
  let c1_i32_536 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v681 : BitVec 32 := Scalar.subi c1_i32_536 v2
  let c4_i32_539 : BitVec 32 := 4#32
  let v682 : BitVec 32 := Scalar.muli v681 c4_i32_539
  let v683 : BitVec 32 := Scalar.addi c0_i32_540 v682
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v684 : BitVec 32 := Scalar.muli v5 c2_i32_541
  let v685 : BitVec 32 := Scalar.addi v683 v684
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_542 : BitVec 32 := 1#32
  let v686 : BitVec 32 := Scalar.muli v8 c1_i32_542
  let v687 : BitVec 32 := Scalar.addi v685 v686
  v687.toNat
def k0_off10 (d0 : Dev nD) (c0_i32_602 : BitVec 32) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_12 v8
  let v23 : BitVec 32 := Scalar.addi v21 v22
  let c4096_i32_15 : BitVec 32 := 4096#32
  let v27 : BitVec 32 := Scalar.muli v23 c4096_i32_15
  let v751 : BitVec 32 := Scalar.addi v27 c0_i32_602
  let c0_i32_637 : BitVec 32 := 0#32
  ![v751.toNat, 0]
def k0_off11 (d0 : Dev nD) (c0_i32_602 : BitVec 32) : Fin 3 → Nat :=
  let c0_i32_638 : BitVec 32 := 0#32
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_12 v8
  let v23 : BitVec 32 := Scalar.addi v21 v22
  let c4096_i32_15 : BitVec 32 := 4096#32
  let v27 : BitVec 32 := Scalar.muli v23 c4096_i32_15
  let v751 : BitVec 32 := Scalar.addi v27 c0_i32_602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v9 : BitVec 32 := Scalar.muli v5 c1024_i32
  ![0, v751.toNat, v9.toNat]
def k0_dev26 (d0 : Dev nD) : Nat :=
  let c0_i32_729 : BitVec 32 := 0#32
  let c1_i32_725 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v884 : BitVec 32 := Scalar.subi c1_i32_725 v2
  let c4_i32_728 : BitVec 32 := 4#32
  let v885 : BitVec 32 := Scalar.muli v884 c4_i32_728
  let v886 : BitVec 32 := Scalar.addi c0_i32_729 v885
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_730 : BitVec 32 := 2#32
  let v887 : BitVec 32 := Scalar.muli v5 c2_i32_730
  let v888 : BitVec 32 := Scalar.addi v886 v887
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_731 : BitVec 32 := 1#32
  let v889 : BitVec 32 := Scalar.muli v8 c1_i32_731
  let v890 : BitVec 32 := Scalar.addi v888 v889
  v890.toNat
def k0_dev27 (d0 : Dev nD) : Nat :=
  let c0_i32_740 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_739 : BitVec 32 := 4#32
  let v900 : BitVec 32 := Scalar.muli v2 c4_i32_739
  let v901 : BitVec 32 := Scalar.addi c0_i32_740 v900
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_741 : BitVec 32 := 2#32
  let v902 : BitVec 32 := Scalar.muli v5 c2_i32_741
  let v903 : BitVec 32 := Scalar.addi v901 v902
  let c1_i32_736 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v899 : BitVec 32 := Scalar.subi c1_i32_736 v8
  let c1_i32_742 : BitVec 32 := 1#32
  let v904 : BitVec 32 := Scalar.muli v899 c1_i32_742
  let v905 : BitVec 32 := Scalar.addi v903 v904
  v905.toNat
def k0_dev28 (d0 : Dev nD) : Nat :=
  let c0_i32_770 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_769 : BitVec 32 := 4#32
  let v936 : BitVec 32 := Scalar.muli v2 c4_i32_769
  let v937 : BitVec 32 := Scalar.addi c0_i32_770 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_771 : BitVec 32 := 2#32
  let v938 : BitVec 32 := Scalar.muli v5 c2_i32_771
  let v939 : BitVec 32 := Scalar.addi v937 v938
  let c1_i32_766 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v935 : BitVec 32 := Scalar.subi c1_i32_766 v8
  let c1_i32_772 : BitVec 32 := 1#32
  let v940 : BitVec 32 := Scalar.muli v935 c1_i32_772
  let v941 : BitVec 32 := Scalar.addi v939 v940
  v941.toNat
def k0_dev29 (d0 : Dev nD) : Nat :=
  let c0_i32_792 : BitVec 32 := 0#32
  let c1_i32_788 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v963 : BitVec 32 := Scalar.subi c1_i32_788 v2
  let c4_i32_791 : BitVec 32 := 4#32
  let v964 : BitVec 32 := Scalar.muli v963 c4_i32_791
  let v965 : BitVec 32 := Scalar.addi c0_i32_792 v964
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_793 : BitVec 32 := 2#32
  let v966 : BitVec 32 := Scalar.muli v5 c2_i32_793
  let v967 : BitVec 32 := Scalar.addi v965 v966
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_794 : BitVec 32 := 1#32
  let v968 : BitVec 32 := Scalar.muli v8 c1_i32_794
  let v969 : BitVec 32 := Scalar.addi v967 v968
  v969.toNat
def k0_dev30 (d0 : Dev nD) : Nat :=
  let c0_i32_1028 : BitVec 32 := 0#32
  let c1_i32_1024 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1210 : BitVec 32 := Scalar.subi c1_i32_1024 v2
  let c4_i32_1027 : BitVec 32 := 4#32
  let v1211 : BitVec 32 := Scalar.muli v1210 c4_i32_1027
  let v1212 : BitVec 32 := Scalar.addi c0_i32_1028 v1211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1029 : BitVec 32 := 2#32
  let v1213 : BitVec 32 := Scalar.muli v5 c2_i32_1029
  let v1214 : BitVec 32 := Scalar.addi v1212 v1213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1030 : BitVec 32 := 1#32
  let v1215 : BitVec 32 := Scalar.muli v8 c1_i32_1030
  let v1216 : BitVec 32 := Scalar.addi v1214 v1215
  v1216.toNat
def k0_dev31 (d0 : Dev nD) : Nat :=
  let c0_i32_1039 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1038 : BitVec 32 := 4#32
  let v1226 : BitVec 32 := Scalar.muli v2 c4_i32_1038
  let v1227 : BitVec 32 := Scalar.addi c0_i32_1039 v1226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1040 : BitVec 32 := 2#32
  let v1228 : BitVec 32 := Scalar.muli v5 c2_i32_1040
  let v1229 : BitVec 32 := Scalar.addi v1227 v1228
  let c1_i32_1035 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1225 : BitVec 32 := Scalar.subi c1_i32_1035 v8
  let c1_i32_1041 : BitVec 32 := 1#32
  let v1230 : BitVec 32 := Scalar.muli v1225 c1_i32_1041
  let v1231 : BitVec 32 := Scalar.addi v1229 v1230
  v1231.toNat
def k0_dev32 (d0 : Dev nD) : Nat :=
  let c0_i32_1069 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1068 : BitVec 32 := 4#32
  let v1262 : BitVec 32 := Scalar.muli v2 c4_i32_1068
  let v1263 : BitVec 32 := Scalar.addi c0_i32_1069 v1262
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1070 : BitVec 32 := 2#32
  let v1264 : BitVec 32 := Scalar.muli v5 c2_i32_1070
  let v1265 : BitVec 32 := Scalar.addi v1263 v1264
  let c1_i32_1065 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1261 : BitVec 32 := Scalar.subi c1_i32_1065 v8
  let c1_i32_1071 : BitVec 32 := 1#32
  let v1266 : BitVec 32 := Scalar.muli v1261 c1_i32_1071
  let v1267 : BitVec 32 := Scalar.addi v1265 v1266
  v1267.toNat
def k0_dev33 (d0 : Dev nD) : Nat :=
  let c0_i32_1091 : BitVec 32 := 0#32
  let c1_i32_1087 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1289 : BitVec 32 := Scalar.subi c1_i32_1087 v2
  let c4_i32_1090 : BitVec 32 := 4#32
  let v1290 : BitVec 32 := Scalar.muli v1289 c4_i32_1090
  let v1291 : BitVec 32 := Scalar.addi c0_i32_1091 v1290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1092 : BitVec 32 := 2#32
  let v1292 : BitVec 32 := Scalar.muli v5 c2_i32_1092
  let v1293 : BitVec 32 := Scalar.addi v1291 v1292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1093 : BitVec 32 := 1#32
  let v1294 : BitVec 32 := Scalar.muli v8 c1_i32_1093
  let v1295 : BitVec 32 := Scalar.addi v1293 v1294
  v1295.toNat
def k0_dev34 (d0 : Dev nD) : Nat :=
  let c0_i32_1331 : BitVec 32 := 0#32
  let c1_i32_1327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1536 : BitVec 32 := Scalar.subi c1_i32_1327 v2
  let c4_i32_1330 : BitVec 32 := 4#32
  let v1537 : BitVec 32 := Scalar.muli v1536 c4_i32_1330
  let v1538 : BitVec 32 := Scalar.addi c0_i32_1331 v1537
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1332 : BitVec 32 := 2#32
  let v1539 : BitVec 32 := Scalar.muli v5 c2_i32_1332
  let v1540 : BitVec 32 := Scalar.addi v1538 v1539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1333 : BitVec 32 := 1#32
  let v1541 : BitVec 32 := Scalar.muli v8 c1_i32_1333
  let v1542 : BitVec 32 := Scalar.addi v1540 v1541
  v1542.toNat
def k0_dev35 (d0 : Dev nD) : Nat :=
  let c0_i32_1342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1341 : BitVec 32 := 4#32
  let v1552 : BitVec 32 := Scalar.muli v2 c4_i32_1341
  let v1553 : BitVec 32 := Scalar.addi c0_i32_1342 v1552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1343 : BitVec 32 := 2#32
  let v1554 : BitVec 32 := Scalar.muli v5 c2_i32_1343
  let v1555 : BitVec 32 := Scalar.addi v1553 v1554
  let c1_i32_1338 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1551 : BitVec 32 := Scalar.subi c1_i32_1338 v8
  let c1_i32_1344 : BitVec 32 := 1#32
  let v1556 : BitVec 32 := Scalar.muli v1551 c1_i32_1344
  let v1557 : BitVec 32 := Scalar.addi v1555 v1556
  v1557.toNat
def k0_dev36 (d0 : Dev nD) : Nat :=
  let c0_i32_1372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1371 : BitVec 32 := 4#32
  let v1588 : BitVec 32 := Scalar.muli v2 c4_i32_1371
  let v1589 : BitVec 32 := Scalar.addi c0_i32_1372 v1588
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1373 : BitVec 32 := 2#32
  let v1590 : BitVec 32 := Scalar.muli v5 c2_i32_1373
  let v1591 : BitVec 32 := Scalar.addi v1589 v1590
  let c1_i32_1368 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1587 : BitVec 32 := Scalar.subi c1_i32_1368 v8
  let c1_i32_1374 : BitVec 32 := 1#32
  let v1592 : BitVec 32 := Scalar.muli v1587 c1_i32_1374
  let v1593 : BitVec 32 := Scalar.addi v1591 v1592
  v1593.toNat
def k0_dev37 (d0 : Dev nD) : Nat :=
  let c0_i32_1394 : BitVec 32 := 0#32
  let c1_i32_1390 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1615 : BitVec 32 := Scalar.subi c1_i32_1390 v2
  let c4_i32_1393 : BitVec 32 := 4#32
  let v1616 : BitVec 32 := Scalar.muli v1615 c4_i32_1393
  let v1617 : BitVec 32 := Scalar.addi c0_i32_1394 v1616
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1395 : BitVec 32 := 2#32
  let v1618 : BitVec 32 := Scalar.muli v5 c2_i32_1395
  let v1619 : BitVec 32 := Scalar.addi v1617 v1618
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1396 : BitVec 32 := 1#32
  let v1620 : BitVec 32 := Scalar.muli v8 c1_i32_1396
  let v1621 : BitVec 32 := Scalar.addi v1619 v1620
  v1621.toNat
def k0_dev38 (d0 : Dev nD) : Nat :=
  let c0_i32_1634 : BitVec 32 := 0#32
  let c1_i32_1630 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1862 : BitVec 32 := Scalar.subi c1_i32_1630 v2
  let c4_i32_1633 : BitVec 32 := 4#32
  let v1863 : BitVec 32 := Scalar.muli v1862 c4_i32_1633
  let v1864 : BitVec 32 := Scalar.addi c0_i32_1634 v1863
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1635 : BitVec 32 := 2#32
  let v1865 : BitVec 32 := Scalar.muli v5 c2_i32_1635
  let v1866 : BitVec 32 := Scalar.addi v1864 v1865
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1636 : BitVec 32 := 1#32
  let v1867 : BitVec 32 := Scalar.muli v8 c1_i32_1636
  let v1868 : BitVec 32 := Scalar.addi v1866 v1867
  v1868.toNat
def k0_dev39 (d0 : Dev nD) : Nat :=
  let c0_i32_1645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1644 : BitVec 32 := 4#32
  let v1878 : BitVec 32 := Scalar.muli v2 c4_i32_1644
  let v1879 : BitVec 32 := Scalar.addi c0_i32_1645 v1878
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1646 : BitVec 32 := 2#32
  let v1880 : BitVec 32 := Scalar.muli v5 c2_i32_1646
  let v1881 : BitVec 32 := Scalar.addi v1879 v1880
  let c1_i32_1641 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1877 : BitVec 32 := Scalar.subi c1_i32_1641 v8
  let c1_i32_1647 : BitVec 32 := 1#32
  let v1882 : BitVec 32 := Scalar.muli v1877 c1_i32_1647
  let v1883 : BitVec 32 := Scalar.addi v1881 v1882
  v1883.toNat
def k0_dev40 (d0 : Dev nD) : Nat :=
  let c0_i32_1675 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1674 : BitVec 32 := 4#32
  let v1914 : BitVec 32 := Scalar.muli v2 c4_i32_1674
  let v1915 : BitVec 32 := Scalar.addi c0_i32_1675 v1914
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1676 : BitVec 32 := 2#32
  let v1916 : BitVec 32 := Scalar.muli v5 c2_i32_1676
  let v1917 : BitVec 32 := Scalar.addi v1915 v1916
  let c1_i32_1671 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1913 : BitVec 32 := Scalar.subi c1_i32_1671 v8
  let c1_i32_1677 : BitVec 32 := 1#32
  let v1918 : BitVec 32 := Scalar.muli v1913 c1_i32_1677
  let v1919 : BitVec 32 := Scalar.addi v1917 v1918
  v1919.toNat
def k0_dev41 (d0 : Dev nD) : Nat :=
  let c0_i32_1697 : BitVec 32 := 0#32
  let c1_i32_1693 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1941 : BitVec 32 := Scalar.subi c1_i32_1693 v2
  let c4_i32_1696 : BitVec 32 := 4#32
  let v1942 : BitVec 32 := Scalar.muli v1941 c4_i32_1696
  let v1943 : BitVec 32 := Scalar.addi c0_i32_1697 v1942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1698 : BitVec 32 := 2#32
  let v1944 : BitVec 32 := Scalar.muli v5 c2_i32_1698
  let v1945 : BitVec 32 := Scalar.addi v1943 v1944
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1699 : BitVec 32 := 1#32
  let v1946 : BitVec 32 := Scalar.muli v8 c1_i32_1699
  let v1947 : BitVec 32 := Scalar.addi v1945 v1946
  v1947.toNat
def k0_dev42 (d0 : Dev nD) : Nat :=
  let c0_i32_1937 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1936 : BitVec 32 := 4#32
  let v2188 : BitVec 32 := Scalar.muli v2 c4_i32_1936
  let v2189 : BitVec 32 := Scalar.addi c0_i32_1937 v2188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1938 : BitVec 32 := 2#32
  let v2190 : BitVec 32 := Scalar.muli v5 c2_i32_1938
  let v2191 : BitVec 32 := Scalar.addi v2189 v2190
  let c1_i32_1933 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2187 : BitVec 32 := Scalar.subi c1_i32_1933 v8
  let c1_i32_1939 : BitVec 32 := 1#32
  let v2192 : BitVec 32 := Scalar.muli v2187 c1_i32_1939
  let v2193 : BitVec 32 := Scalar.addi v2191 v2192
  v2193.toNat
def k0_dev43 (d0 : Dev nD) : Nat :=
  let c0_i32_1959 : BitVec 32 := 0#32
  let c1_i32_1955 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2215 : BitVec 32 := Scalar.subi c1_i32_1955 v2
  let c4_i32_1958 : BitVec 32 := 4#32
  let v2216 : BitVec 32 := Scalar.muli v2215 c4_i32_1958
  let v2217 : BitVec 32 := Scalar.addi c0_i32_1959 v2216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1960 : BitVec 32 := 2#32
  let v2218 : BitVec 32 := Scalar.muli v5 c2_i32_1960
  let v2219 : BitVec 32 := Scalar.addi v2217 v2218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1961 : BitVec 32 := 1#32
  let v2220 : BitVec 32 := Scalar.muli v8 c1_i32_1961
  let v2221 : BitVec 32 := Scalar.addi v2219 v2220
  v2221.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Script.lean ====
/-
The kernel body as a script. Every device runs one straight line of commands; this module names the
commands, says which effect of the program each one is, and shows that the printed body is the run of
the script.
-/
module

public import proofs.«01_k».proof.Proof.Gen.Kernel.Skeleton
public import proofs.«01_k».proof.Proof.Gen.Kernel.Launch
public import proofs.«01_k».proof.Proof.Gen.Kernel.Points
public import Idealize.ShloMosaic.Lib.Tactic

@[expose] public section

noncomputable section

namespace Cert.Exchange

open Cert.Kernel Cert.Kernel.Gen
open Idealize.ShloMosaic Idealize.ShloMosaic.TcCoe
open Idealize.SL Idealize.SL.Sem

variable {F : FTy → Type} [FloatOps F]

/-! ## Names -/

/-- The five channels between devices: the exchange with the y-neighbour, the two copies of what came
over it to the x- and the z-neighbour, and the two relays of half a chunk. -/
inductive Ch
  | y | x | z | rz | rx
  deriving DecidableEq

/-- The four groups of rows of the result: the device's own, the one from its x-neighbour, the one from
its z-neighbour, and the one that both relays bring. -/
inductive Grp
  | me | x | z | d
  deriving DecidableEq

/-- The program's buffers: the argument, the result, the array that is received into, and the three
buffers in fast memory. -/
abbrev xM : Memref sig .tc .hbm S1x16384x2048 .f32 := Memref.whole main_arg0
abbrev oM : Memref sig .tc .hbm S16384x1024 .f32 := Memref.whole main_v1_0
abbrev rM : Memref sig .tc .hbm S16384x1024 .f32 := Memref.whole main_v1_1
abbrev qM : Memref sig .tc .vmem S8x512x1024 .f32 := Memref.whole cc0_scratch0
abbrev lM : Memref sig .tc .vmem S8x512x1024 .f32 := Memref.whole cc0_scratch1
abbrev bM : Memref sig .tc .vmem S4x512x1024 .f32 := Memref.whole cc0_scratch2

/-! ## Semaphores -/

theorem inb8 (k : Fin 8) : ∀ a, (![k.val] : Fin 1 → Nat) a + S1.size a ≤ S8.size a := by
  revert k; decide
theorem inb4 (k : Fin 4) : ∀ a, (![k.val] : Fin 1 → Nat) a + S1.size a ≤ S4.size a := by
  revert k; decide

/-- Semaphore `k` of an array of eight, and of an array of four. -/
def sem8 (a : DmaSems sig S8) (k : Fin 8) : DmaSem sig :=
  ((a.slice (Rect.unit (s := S8) ![k.val] S1.size (inb8 k))).squeeze S_ squeezes_S1_S_).sem
def sem4 (a : DmaSems sig S4) (k : Fin 4) : DmaSem sig :=
  ((a.slice (Rect.unit (s := S4) ![k.val] S1.size (inb4 k))).squeeze S_ squeezes_S1_S_).sem

/-- The barrier semaphore. -/
def barS : Sem sig := (SemArray.scalar (sig.barrier 0 rfl) : Sems sig S_).sem

/-- The semaphore that says that a channel's source has been read, and the one that says that its
data has landed. -/
def sendS : Ch → Fin 8 → DmaSem sig
  | .y => sem8 cc0_scratch3
  | .x => sem8 cc0_scratch5
  | .z => sem8 cc0_scratch7
  | .rz => sem8 cc0_scratch9
  | .rx => sem8 cc0_scratch11
def recvS : Ch → Fin 8 → DmaSem sig
  | .y => sem8 cc0_scratch4
  | .x => sem8 cc0_scratch6
  | .z => sem8 cc0_scratch8
  | .rz => sem8 cc0_scratch10
  | .rx => sem8 cc0_scratch12

/-- The slot, out of eight and out of four, that item `i` uses. -/
def m8 (i : Fin 32) : Fin 8 := ⟨i.val % 8, Nat.mod_lt _ (by decide)⟩
def m4 (i : Fin 32) : Fin 4 := ⟨i.val % 4, Nat.mod_lt _ (by decide)⟩

def qS (n : Fin 8) : DmaSem sig := sem8 cc0_scratch13 n
def lS (n : Fin 8) : DmaSem sig := sem8 cc0_scratch14 n
def oS (n : Fin 4) : DmaSem sig := sem4 cc0_scratch15 n

/-! ## Windows -/

/-- Chunk `k` as the word that the program adds to its row offsets. -/
abbrev kw (k : Fin 8) : BitVec 32 := BitVec.ofNat 32 (512 * k.val)

/-- Where chunk `k` of a group starts in the result (and in the array received into), and where the
device's own share of it starts in the argument. -/
def gOff : Grp → Dev nD → Fin 8 → Fin 2 → Nat
  | .me => fun d k => k0_off1 d (kw k)
  | .x => fun d k => k0_off6 d (kw k)
  | .z => fun d k => k0_off8 d (kw k)
  | .d => fun d k => k0_off10 d (kw k)
def lOff : Grp → Dev nD → Fin 8 → Fin 3 → Nat
  | .me => fun d k => k0_off5 d (kw k)
  | .x => fun d k => k0_off7 d (kw k)
  | .z => fun d k => k0_off9 d (kw k)
  | .d => fun d k => k0_off11 d (kw k)

theorem gOff_inb (g : Grp) (d : Dev nD) (k : Fin 8) :
    ∀ a, gOff g d k a + S512x1024.size a ≤ S16384x1024.size a :=
  match g with
  | .me => k0_off1_inb d k
  | .x => k0_off6_inb d k
  | .z => k0_off8_inb d k
  | .d => k0_off10_inb d k
theorem lOff_inb (g : Grp) (d : Dev nD) (k : Fin 8) :
    ∀ a, lOff g d k a + S1x512x1024.size a ≤ S1x16384x2048.size a :=
  match g with
  | .me => k0_off5_inb d k
  | .x => k0_off7_inb d k
  | .z => k0_off9_inb d k
  | .d => k0_off11_inb d k

/-- A 512-row window of an array of the result's shape, and of the argument. -/
abbrev winR (m : Memref sig .tc .hbm S16384x1024 .f32) (off : Fin 2 → Nat)
    (h : ∀ a, off a + S512x1024.size a ≤ S16384x1024.size a) : Memref sig .tc .hbm S512x1024 .f32 :=
  m.slice (Rect.unit (s := S16384x1024) off S512x1024.size h) (fun _ => rfl)
abbrev winH (m : Memref sig .tc .hbm S16384x1024 .f32) (off : Fin 2 → Nat)
    (h : ∀ a, off a + S512x512.size a ≤ S16384x1024.size a) : Memref sig .tc .hbm S512x512 .f32 :=
  m.slice (Rect.unit (s := S16384x1024) off S512x512.size h) (fun _ => rfl)
abbrev winX (off : Fin 3 → Nat) (h : ∀ a, off a + S1x512x1024.size a ≤ S1x16384x2048.size a) :
    Memref sig .tc .hbm S512x1024 .f32 :=
  (xM.slice (Rect.unit (s := S1x16384x2048) off S1x512x1024.size h) (fun _ => rfl)).squeeze S512x1024
    squeezes_S1x512x1024_S512x1024

theorem inbB8 (n : Fin 8) : ∀ a, (![n.val, 0, 0] : Fin 3 → Nat) a + S1x512x1024.size a ≤ S8x512x1024.size a := by
  revert n; decide
theorem inbB4 (n : Fin 4) : ∀ a, (![n.val, 0, 0] : Fin 3 → Nat) a + S1x512x1024.size a ≤ S4x512x1024.size a := by
  revert n; decide

/-- A slot's rectangle in the buffers of eight and of four slots, and the slot as a window. -/
abbrev rect8 (n : Fin 8) : Rect S8x512x1024 :=
  Rect.unit (s := S8x512x1024) ![n.val, 0, 0] S1x512x1024.size (inbB8 n)
abbrev rect4 (n : Fin 4) : Rect S4x512x1024 :=
  Rect.unit (s := S4x512x1024) ![n.val, 0, 0] S1x512x1024.size (inbB4 n)
abbrev slot8 (m : Memref sig .tc .vmem S8x512x1024 .f32) (n : Fin 8) : Memref sig .tc .vmem S512x1024 .f32 :=
  (m.slice (rect8 n) (fun _ => rfl)).squeeze S512x1024 squeezes_S1x512x1024_S512x1024
abbrev slot4 (m : Memref sig .tc .vmem S4x512x1024 .f32) (n : Fin 4) : Memref sig .tc .vmem S512x1024 .f32 :=
  (m.slice (rect4 n) (fun _ => rfl)).squeeze S512x1024 squeezes_S1x512x1024_S512x1024

/-- The shape that a channel moves at a time. -/
def chShape : Ch → Shape
  | .y => S512x1024
  | .x => S512x1024
  | .z => S512x1024
  | .rz => S512x512
  | .rx => S512x512

/-- The window of the sending device that a channel reads, and the window, of the same rows and of the
receiving device, that it writes. -/
def chSrc : (ch : Ch) → Dev nD → Fin 8 → Memref sig .tc .hbm (chShape ch) .f32
  | .y => fun d k => winX (k0_off2 d (kw k)) (k0_off2_inb d k)
  | .x => fun d k => winR rM (k0_off1 d (kw k)) (k0_off1_inb d k)
  | .z => fun d k => winR rM (k0_off1 d (kw k)) (k0_off1_inb d k)
  | .rz => fun d k => winH rM (k0_off3 d (kw k)) (k0_off3_inb d k)
  | .rx => fun d k => winH rM (k0_off4 d (kw k)) (k0_off4_inb d k)
def chDst : (ch : Ch) → Dev nD → Fin 8 → Memref sig .tc .hbm (chShape ch) .f32
  | .y => fun d k => winR rM (k0_off1 d (kw k)) (k0_off1_inb d k)
  | .x => fun d k => winR rM (k0_off1 d (kw k)) (k0_off1_inb d k)
  | .z => fun d k => winR rM (k0_off1 d (kw k)) (k0_off1_inb d k)
  | .rz => fun d k => winH rM (k0_off3 d (kw k)) (k0_off3_inb d k)
  | .rx => fun d k => winH rM (k0_off4 d (kw k)) (k0_off4_inb d k)

theorem wordExact_chSrc (ch : Ch) (d : Dev nD) (k : Fin 8) : (chSrc ch d k).view.WordExact :=
  View.wordExact_bits rfl
theorem wordExact_chDst (ch : Ch) (d : Dev nD) (k : Fin 8) : (chDst ch d k).view.WordExact :=
  View.wordExact_bits rfl

/-! ## Who a channel sends to -/

/-- The device that the program computes as the target of a channel's copy of chunk `k`. -/
def target : Ch → Fin 8 → Dev nD → Dev nD
  | .y, 0, d => ⟨k0_dev4 d, k0_dev4_lt d⟩
  | .y, 1, d => ⟨k0_dev5 d, k0_dev5_lt d⟩
  | .y, 2, d => ⟨k0_dev6 d, k0_dev6_lt d⟩
  | .y, 3, d => ⟨k0_dev7 d, k0_dev7_lt d⟩
  | .y, 4, d => ⟨k0_dev8 d, k0_dev8_lt d⟩
  | .y, 5, d => ⟨k0_dev9 d, k0_dev9_lt d⟩
  | .y, 6, d => ⟨k0_dev10 d, k0_dev10_lt d⟩
  | .y, 7, d => ⟨k0_dev11 d, k0_dev11_lt d⟩
  | .x, 0, d => ⟨k0_dev12 d, k0_dev12_lt d⟩
  | .x, 1, d => ⟨k0_dev14 d, k0_dev14_lt d⟩
  | .x, 2, d => ⟨k0_dev18 d, k0_dev18_lt d⟩
  | .x, 3, d => ⟨k0_dev22 d, k0_dev22_lt d⟩
  | .x, 4, d => ⟨k0_dev26 d, k0_dev26_lt d⟩
  | .x, 5, d => ⟨k0_dev30 d, k0_dev30_lt d⟩
  | .x, 6, d => ⟨k0_dev34 d, k0_dev34_lt d⟩
  | .x, 7, d => ⟨k0_dev38 d, k0_dev38_lt d⟩
  | .z, 0, d => ⟨k0_dev13 d, k0_dev13_lt d⟩
  | .z, 1, d => ⟨k0_dev15 d, k0_dev15_lt d⟩
  | .z, 2, d => ⟨k0_dev19 d, k0_dev19_lt d⟩
  | .z, 3, d => ⟨k0_dev23 d, k0_dev23_lt d⟩
  | .z, 4, d => ⟨k0_dev27 d, k0_dev27_lt d⟩
  | .z, 5, d => ⟨k0_dev31 d, k0_dev31_lt d⟩
  | .z, 6, d => ⟨k0_dev35 d, k0_dev35_lt d⟩
  | .z, 7, d => ⟨k0_dev39 d, k0_dev39_lt d⟩
  | .rz, 0, d => ⟨k0_dev16 d, k0_dev16_lt d⟩
  | .rz, 1, d => ⟨k0_dev20 d, k0_dev20_lt d⟩
  | .rz, 2, d => ⟨k0_dev24 d, k0_dev24_lt d⟩
  | .rz, 3, d => ⟨k0_dev28 d, k0_dev28_lt d⟩
  | .rz, 4, d => ⟨k0_dev32 d, k0_dev32_lt d⟩
  | .rz, 5, d => ⟨k0_dev36 d, k0_dev36_lt d⟩
  | .rz, 6, d => ⟨k0_dev40 d, k0_dev40_lt d⟩
  | .rz, 7, d => ⟨k0_dev42 d, k0_dev42_lt d⟩
  | .rx, 0, d => ⟨k0_dev17 d, k0_dev17_lt d⟩
  | .rx, 1, d => ⟨k0_dev21 d, k0_dev21_lt d⟩
  | .rx, 2, d => ⟨k0_dev25 d, k0_dev25_lt d⟩
  | .rx, 3, d => ⟨k0_dev29 d, k0_dev29_lt d⟩
  | .rx, 4, d => ⟨k0_dev33 d, k0_dev33_lt d⟩
  | .rx, 5, d => ⟨k0_dev37 d, k0_dev37_lt d⟩
  | .rx, 6, d => ⟨k0_dev41 d, k0_dev41_lt d⟩
  | .rx, 7, d => ⟨k0_dev43 d, k0_dev43_lt d⟩

/-- The device whose barrier semaphore the `n`-th signal raises. -/
def barTarget : Fin 3 → Dev nD → Dev nD
  | 0, d => ⟨k0_dev1 d, k0_dev1_lt d⟩
  | 1, d => ⟨k0_dev2 d, k0_dev2_lt d⟩
  | 2, d => ⟨k0_dev3 d, k0_dev3_lt d⟩

/-! ## Items -/

/-- The group and the chunk of each of the thirty-two additions, in the order in which they are made. -/
def item : Fin 32 → Grp × Fin 8 :=
  ![(.me, 0), (.me, 1), (.x, 0), (.z, 0), (.me, 2), (.x, 1), (.z, 1), (.d, 0),
    (.me, 3), (.x, 2), (.z, 2), (.d, 1), (.me, 4), (.x, 3), (.z, 3), (.d, 2),
    (.me, 5), (.x, 4), (.z, 4), (.d, 3), (.me, 6), (.x, 5), (.z, 5), (.d, 4),
    (.me, 7), (.x, 6), (.z, 6), (.d, 5), (.x, 7), (.z, 7), (.d, 6), (.d, 7)]

/-- The window of the array received into that item `i` adds, the window of the argument that it adds it
to, and the window of the result that it fills. -/
abbrev itQ (d : Dev nD) (i : Fin 32) : Memref sig .tc .hbm S512x1024 .f32 :=
  winR rM (gOff (item i).1 d (item i).2) (gOff_inb (item i).1 d (item i).2)
abbrev itL (d : Dev nD) (i : Fin 32) : Memref sig .tc .hbm S512x1024 .f32 :=
  winX (lOff (item i).1 d (item i).2) (lOff_inb (item i).1 d (item i).2)
abbrev itO (d : Dev nD) (i : Fin 32) : Memref sig .tc .hbm S512x1024 .f32 :=
  winR oM (gOff (item i).1 d (item i).2) (gOff_inb (item i).1 d (item i).2)

/-- What is stored for an item: the sum of the two loaded blocks. -/
def sumBlock (l q : Vec F S1x512x1024 .f32) : FVec F S1x512x1024 .f32 :=
  shapeCast S1x512x1024 (addf (shapeCast S512x1024 l shapeCasts_S1x512x1024_S512x1024 : FVec F S512x1024 .f32)
    (shapeCast S512x1024 q shapeCasts_S1x512x1024_S512x1024)) shapeCasts_S512x1024_S1x512x1024

/-! ## Commands -/

/-- One command of the body: signal a neighbour's barrier; wait for the three signals; start a channel's
copy of chunk `k`, wait for the data that comes over it, wait until its source has been read; start
loading the received part, or the own part, of item `i`, and wait for it; wait for item `j`'s store;
add; start storing. -/
inductive Cmd
  | sig (n : Fin 3)
  | bar
  | start (ch : Ch) (k : Fin 8)
  | recv (ch : Ch) (k : Fin 8)
  | sent (ch : Ch) (k : Fin 8)
  | fetchQ (i : Fin 32)
  | fetchL (i : Fin 32)
  | gotQ (i : Fin 32)
  | gotL (i : Fin 32)
  | freeO (j : Fin 32)
  | add (i : Fin 32)
  | put (i : Fin 32)
  deriving DecidableEq

abbrev BodyProg (F : FTy → Type) [FloatOps F] : Type 1 := Prog (TpuEff nD τ sig (Elt F) Λ₀ .tc) PUnit

/-- A command's effects, before what follows. -/
def denote (d : Dev nD) : Cmd → BodyProg F → BodyProg F
  | .sig n, p => semSignalWord (barTarget n d) barS 1#32 >>= fun _ => p
  | .bar, p => semWaitWord barS 3#32 >>= fun _ => p
  | .start ch k, p => .op (.enqueueDma (chSrc ch d k) (.remote (Dev.tc (target ch k d)) (chDst ch d k) (.dma (sendS ch k)))
      (.dma (recvS ch k)) (wordExact_chSrc ch d k) (wordExact_chDst ch d k) ⟨⟨rfl, Or.inl rfl⟩, trivial⟩) fun _ => p
  | .recv ch k, p => .op (.waitDma2 (recvS ch k) (chSrc ch d k) (chDst ch d k) (wordExact_chSrc ch d k) (wordExact_chDst ch d k)) fun _ => p
  | .sent ch k, p => .op (.waitDma2 (sendS ch k) (chDst ch d k) (chSrc ch d k) (wordExact_chDst ch d k) (wordExact_chSrc ch d k)) fun _ => p
  | .fetchQ i, p => .op (.enqueueDma (itQ d i) (.here (slot8 qM (m8 i))) (.dma (qS (m8 i))) (View.wordExact_bits rfl)
      (View.wordExact_bits rfl) ⟨Or.inl rfl, trivial⟩) fun _ => p
  | .fetchL i, p => .op (.enqueueDma (itL d i) (.here (slot8 lM (m8 i))) (.dma (lS (m8 i))) (View.wordExact_bits rfl)
      (View.wordExact_bits rfl) ⟨Or.inl rfl, trivial⟩) fun _ => p
  | .gotQ i, p => .op (.waitDma2 (qS (m8 i)) (itQ d i) (slot8 qM (m8 i)) (View.wordExact_bits rfl) (View.wordExact_bits rfl)) fun _ => p
  | .gotL i, p => .op (.waitDma2 (lS (m8 i)) (itL d i) (slot8 lM (m8 i)) (View.wordExact_bits rfl) (View.wordExact_bits rfl)) fun _ => p
  | .freeO j, p => .op (.waitDma2 (oS (m4 j)) (slot4 bM (m4 j)) (winR oM ![0, 0] inb_S16384x1024_S512x1024_0_0)
      (View.wordExact_bits rfl) (View.wordExact_bits rfl)) fun _ => p
  | .add i, p => .op (.load lM (rect8 (m8 i)).toLoadRect (View.loadsAt_vmem h_S1x512x1024)) fun l =>
      .op (.load qM (rect8 (m8 i)).toLoadRect (View.loadsAt_vmem h_S1x512x1024)) fun q =>
      .op (.load bM (rect4 (m4 i)).toLoadRect (View.loadsAt_vmem h_S1x512x1024)) fun _ =>
      .op (.store bM (rect4 (m4 i)) (sumBlock l q) Finset.univ (View.stores_vmem_bits_univ h_S1x512x1024 rfl) (.inl rfl)) fun _ => p
  | .put i, p => .op (.enqueueDma (slot4 bM (m4 i)) (.here (itO d i)) (.dma (oS (m4 i))) (View.wordExact_bits rfl)
      (View.wordExact_bits rfl) ⟨Or.inl rfl, trivial⟩) fun _ => p

/-- The run of a list of commands. -/
def run (d : Dev nD) : List Cmd → BodyProg F
  | [] => .ret ⟨⟩
  | c :: cs => denote d c (run d cs)

/-! ## The script -/

/-- The commands that one item adds to a step that starts it. -/
def begin_ (i : Fin 32) : List Cmd := [.fetchQ i, .fetchL i]

/-- The commands that finish an item; from the fifth on, the store of the item that used
its slot before is waited for first. -/
def finish (i : Fin 32) : List Cmd :=
  [.gotQ i, .gotL i] ++ (if 4 ≤ i.val then [.freeO ⟨i.val - 4, by omega⟩] else []) ++ [.add i, .put i]

/-- What step `s` does for chunk `s` of the exchange with the y-neighbour. -/
def stepY (k : Fin 8) : List Cmd := [.recv .y k, .start .x k, .start .z k, .sent .y k]
/-- What the step after does for it. -/
def stepXZ (k : Fin 8) : List Cmd :=
  [.recv .x k, .start .rz k, .recv .z k, .start .rx k, .sent .x k, .sent .z k]
/-- What the step after that does for it. -/
def stepR (k : Fin 8) : List Cmd := [.recv .rz k, .recv .rx k, .sent .rz k, .sent .rx k]

/-- The items that each step starts; the step after finishes them. -/
def itemsOf : Fin 12 → List (Fin 32)
  | 0 => []
  | 1 => [0]
  | 2 => [1, 2, 3]
  | 3 => [4, 5, 6, 7]
  | 4 => [8, 9, 10, 11]
  | 5 => [12, 13, 14, 15]
  | 6 => [16, 17, 18, 19]
  | 7 => [20, 21, 22, 23]
  | 8 => [24, 25, 26, 27]
  | 9 => [28, 29, 30]
  | 10 => [31]
  | 11 => []

/-- Step `s` of the body's loop. -/
def step (s : Fin 11) : List Cmd :=
  (if h : s.val < 8 then stepY ⟨s.val, h⟩ else []) ++
  (if h : 1 ≤ s.val ∧ s.val - 1 < 8 then stepXZ ⟨s.val - 1, h.2⟩ else []) ++
  (if h : 2 ≤ s.val ∧ s.val - 2 < 8 then stepR ⟨s.val - 2, h.2⟩ else []) ++
  (itemsOf s.castSucc).flatMap begin_ ++
  (if h : 1 ≤ s.val then (itemsOf ⟨s.val - 1, by omega⟩).flatMap finish else [])

/-- The whole body. -/
def script : List Cmd :=
  [.sig 0, .sig 1, .sig 2, .bar] ++ (List.finRange 8).map (.start .y) ++
  (List.finRange 11).flatMap step ++ (itemsOf 10).flatMap finish ++ [.freeO 28, .freeO 29, .freeO 30, .freeO 31]

set_option maxRecDepth 65536 in
/-- The printed body reads its device id and then runs the script. -/
theorem body_eq_run (t : Fin cfg0.N) :
    (bodyAt0 (F := F) t) = .op .deviceId fun d => run d script := by
  sl_kernel_rfl

end Cert.Exchange

end
-- ==== Proof.Proto.lean ====
/-
The protocol. Every semaphore of a device is one cell with a role; a cell is used in rounds, and in each
round the parties that raise it hand something over to the device that waits on it. This module says what
the arrays hold, what each hand-over is, and in which order a device may wait.
-/
module

public import proofs.«01_k».proof.Proof.Script
public import Idealize.ShloMosaic.Lib.Pipeline.Launch
public import Idealize.ShloMosaic.Lib.Pipeline.Kit
public import Idealize.ShloMosaic.Lib.ValueIdxCore

@[expose] public section

noncomputable section

namespace Cert.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## Roles of semaphores -/

/-- What a semaphore of a device is for. -/
inductive Cell
  | bar
  | send (ch : Ch) (k : Fin 8)
  | recv (ch : Ch) (k : Fin 8)
  | q (n : Fin 8)
  | l (n : Fin 8)
  | o (n : Fin 4)
  deriving DecidableEq

/-- The semaphore of a role. -/
def Cell.sem : Cell → SemLoc sig
  | .bar => .reg barS
  | .send ch k => .dma (sendS ch k)
  | .recv ch k => .dma (recvS ch k)
  | .q n => .dma (qS n)
  | .l n => .dma (lS n)
  | .o n => .dma (oS n)

/-- The channels in the order of their semaphores. -/
def chOf : Fin 5 → Ch := ![.y, .x, .z, .rz, .rx]

/-- The role of the `n`-th copy semaphore. -/
def roleDma (n : Fin 100) : Cell :=
  if h : n.val < 80 then
    if n.val / 8 % 2 = 0 then .send (chOf ⟨n.val / 16, by omega⟩) ⟨n.val % 8, by omega⟩
    else .recv (chOf ⟨n.val / 16, by omega⟩) ⟨n.val % 8, by omega⟩
  else if n.val < 88 then .q ⟨n.val % 8, by omega⟩
  else if n.val < 96 then .l ⟨n.val % 8, by omega⟩
  else .o ⟨n.val % 4, by omega⟩

/-- The role of a semaphore. -/
def role : SemLoc sig → Cell
  | .reg _ => .bar
  | .dma n => roleDma n

theorem role_sem (a : Cell) : role a.sem = a := by
  cases a with
  | bar => rfl
  | send ch k => cases ch <;> revert k <;> decide +kernel
  | recv ch k => cases ch <;> revert k <;> decide +kernel
  | q n => revert n; decide +kernel
  | l n => revert n; decide +kernel
  | o n => revert n; decide +kernel

theorem sem_role (s : SemLoc sig) : (role s).sem = s := by
  cases s with
  | reg s => have h : s = barS := by revert s; decide
             subst h; rfl
  | dma n => revert n; decide +kernel

/-- A device's cell of a role. -/
abbrev gcell (c : Dev nD) (a : Cell) : GSem nD τ sig := ((c : Thread nD τ), a.sem)

/-! ## Neighbours -/

/-- The direction of the signal after which a channel's neighbour may be written to. -/
def dirOf : Ch → Fin 3
  | .y => 0 | .x => 1 | .z => 2 | .rz => 2 | .rx => 1

theorem target_eq (ch : Ch) (k : Fin 8) (c : Dev nD) : target ch k c = barTarget (dirOf ch) c := by
  cases ch <;> revert k c <;> decide +kernel
theorem barTarget_barTarget (n : Fin 3) (c : Dev nD) : barTarget n (barTarget n c) = c := by
  revert n c; decide +kernel
theorem target_target (ch : Ch) (k : Fin 8) (c : Dev nD) : target ch k (target ch k c) = c := by
  rw [target_eq, target_eq, barTarget_barTarget]

/-- The channels whose landing regions a signal in direction `n` opens, with every chunk. -/
def toward : Fin 3 → List (Ch × Fin 8)
  | 0 => (List.finRange 8).map fun k => (.y, k)
  | 1 => ((List.finRange 8).map fun k => (.x, k)) ++ (List.finRange 8).map fun k => (.rx, k)
  | 2 => ((List.finRange 8).map fun k => (.z, k)) ++ (List.finRange 8).map fun k => (.rz, k)

theorem dirOf_of_mem_toward {n : Fin 3} {p : Ch × Fin 8} (h : p ∈ toward n) : dirOf p.1 = n := by
  revert h; obtain ⟨ch, k⟩ := p
  cases ch <;> revert n k <;> decide +kernel

/-! ## Amounts -/

/-- The credit of one copy of a channel, and of one of a device's own block copies. -/
def chN (ch : Ch) : ℕ := (chDst ch 0 0).view.dmaCredit
def blkN : ℕ := (slot8 qM 0).view.dmaCredit

theorem chN_pos (ch : Ch) : 0 < chN ch := View.dmaCredit_pos _ (by cases ch <;> decide)
theorem blkN_pos : 0 < blkN := View.dmaCredit_pos _ (by decide)

theorem credit_chDst (ch : Ch) (d : Dev nD) (k : Fin 8) : (chDst ch d k).view.dmaCredit = chN ch := by
  cases ch <;> rfl
theorem credit_chSrc (ch : Ch) (d : Dev nD) (k : Fin 8) : (chSrc ch d k).view.dmaCredit = chN ch := by
  cases ch <;> rfl

/-- How many rounds a cell has, who raises it in each, and what a round adds up to. -/
def Cell.rounds : Cell → ℕ
  | .bar => 1 | .send _ _ => 1 | .recv _ _ => 1 | .q _ => 4 | .l _ => 4 | .o _ => 8
def Cell.payers : Cell → Finset (Fin 3)
  | .bar => Finset.univ
  | _ => {0}
def Cell.unit : Cell → ℕ
  | .bar => 1
  | .send ch _ => chN ch
  | .recv ch _ => chN ch
  | _ => blkN
def Cell.total : Cell → ℕ
  | .bar => 3
  | a => a.unit

theorem Cell.unit_pos (a : Cell) : 0 < a.unit := by
  cases a with
  | bar => exact Nat.one_pos
  | send ch k => exact chN_pos ch
  | recv ch k => exact chN_pos ch
  | q n => exact blkN_pos
  | l n => exact blkN_pos
  | o n => exact blkN_pos

/-- Where a wait on a cell stands in the order: a device waits on a cell only while everything it still
owes stands higher. -/
def Cell.level : Cell → ℕ
  | .bar => 1
  | .recv .y k => 4 * k.val + 2
  | .recv .x k => 4 * k.val + 3
  | .recv .z k => 4 * k.val + 3
  | .recv .rz k => 4 * k.val + 8
  | .recv .rx k => 4 * k.val + 8
  | _ => 0

/-! ## Contents -/

variable (m : (ℓ : Loc nD τ sig) → Buf (Elt F) ℓ)

/-- The device's index along the second mesh axis. -/
abbrev yOf (c : Dev nD) : ℕ := c.val / 2 % 2

theorem dev_lt (c : Dev nD) : c.val < 8 := c.isLt

/-- The device, on the other side of the second mesh axis, that owns a row of the exchange. -/
def srcDev (c : Dev nD) (row : Fin 16384) : Dev nD :=
  ⟨4 * (row.val / 8192) + 2 * (1 - yOf c) + row.val / 4096 % 2, by
    have := row.isLt; show _ < 8; omega⟩

/-- A column of the device's half of the argument. -/
def colOf (c : Dev nD) (j : Fin 1024) : Fin 2048 := ⟨1024 * yOf c + j.val, by
    have := j.isLt; have : yOf c < 2 := Nat.mod_lt _ (by decide); omega⟩

/-- The argument of a device. -/
abbrev xFin (c : Dev nD) : Buf (Elt F) ((c : Thread nD τ).loc main_arg0) := m ((c : Thread nD τ).loc main_arg0)

/-- What the device has received in the end: at each row, the row of the device on the other side that owns
it, in the device's own columns. -/
def rFin (c : Dev nD) : Buf (Elt F) ((c : Thread nD τ).loc main_v1_1) :=
  fun (i : S16384x1024.Idx) => m ((srcDev c (i 0) : Thread nD τ).loc main_arg0) (ix3 (0 : Fin 1) (i 0) (colOf c (i 1)))

/-- The device's own part of the sum. -/
def lFin (c : Dev nD) : S16384x1024.Idx → Elt F .f32 :=
  fun i => m ((c : Thread nD τ).loc main_arg0) (ix3 (0 : Fin 1) (i 0) (colOf c (i 1)))

/-- The result of a device. -/
def outFin (c : Dev nD) : Buf (Elt F) ((c : Thread nD τ).loc main_v1_0) :=
  (addf (φ := .f32) (lFin m c) (rFin m c : S16384x1024.Idx → Elt F .f32) : FVec F S16384x1024 .f32)

/-! ## The algebra of resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The separating conjunction of a family along a list. -/
def sepL {ι : Type} (Φ : ι → sProp 𝕄) : List ι → sProp 𝕄
  | [] => iprop(emp)
  | a :: l => iprop(Φ a ∗ sepL Φ l)

omit [FloatOps F] in
instance sepL_storable {ι : Type} (Φ : ι → sProp 𝕄) [∀ i, BI.Storable (upEmb : UEmb _ 𝕄) (Φ i)] (l : List ι) :
    BI.Storable (upEmb : UEmb _ 𝕄) (sepL Φ l) := by
  induction l with
  | nil => unfold sepL; infer_instance
  | cons a l ih => unfold sepL; infer_instance

/-! ## Pieces of memory -/

/-- A window of a device, at a share, with the contents of a buffer. -/
abbrev pts {sp : Space} {s : Shape} (c : Dev nD) (M : Memref sig .tc sp s .f32) (q : PosShare TreeShare)
    (f : Buf (Elt F) (M.view.loc (c : Thread nD τ))) : sProp 𝕄 :=
  M.view.loc (c : Thread nD τ) ↦[M.view.set]{q} f

/-- The share at which a channel reads its source. -/
def chQ : Ch → PosShare TreeShare
  | .y => fullShare.right
  | .x => fullShare.left.left
  | .z => fullShare.left.right
  | .rz => fullShare.left
  | .rx => fullShare.left

/-- What a channel's source holds, and what its landing region on device `p` is to hold. -/
def srcFn (ch : Ch) (c : Dev nD) (k : Fin 8) : Buf (Elt F) ((chSrc ch c k).view.loc (c : Thread nD τ)) :=
  match ch with
  | .y => xFin m c
  | .x => rFin m c
  | .z => rFin m c
  | .rz => rFin m c
  | .rx => rFin m c
def dstFn (ch : Ch) (c p : Dev nD) (k : Fin 8) : Buf (Elt F) ((chDst ch c k).view.loc (p : Thread nD τ)) :=
  match ch with
  | .y => rFin m p
  | .x => rFin m p
  | .z => rFin m p
  | .rz => rFin m p
  | .rx => rFin m p

/-- A channel's source, as the sender holds it. -/
def srcP (c : Dev nD) (ch : Ch) (k : Fin 8) : sProp 𝕄 := pts c (chSrc ch c k) (chQ ch) (srcFn m ch c k)
/-- The region of a neighbour that a channel of `c` writes, not yet written. -/
def peerP (c : Dev nD) (ch : Ch) (k : Fin 8) : sProp 𝕄 :=
  iprop(∃ f, pts (target ch k c) (chDst ch c k) fullShare f)
/-- The region of `c` that a channel's sender writes, not yet written. -/
def landP (c : Dev nD) (ch : Ch) (k : Fin 8) : sProp 𝕄 :=
  iprop(∃ f, pts c (chDst ch (target ch k c) k) fullShare f)
/-- The same, written. -/
def gotP (c : Dev nD) (ch : Ch) (k : Fin 8) : sProp 𝕄 :=
  pts c (chDst ch (target ch k c) k) fullShare (dstFn m ch (target ch k c) c k)

/-- The share at which an item reads what was received. -/
def itShare : Grp → PosShare TreeShare
  | .d => fullShare
  | _ => fullShare.right

/-- The windows of chunk `k` of a group: received, own part, result. -/
abbrev winQ (c : Dev nD) (g : Grp) (k : Fin 8) : Memref sig .tc .hbm S512x1024 .f32 := winR rM (gOff g c k) (gOff_inb g c k)
abbrev winL (c : Dev nD) (g : Grp) (k : Fin 8) : Memref sig .tc .hbm S512x1024 .f32 := winX (lOff g c k) (lOff_inb g c k)
abbrev winO (c : Dev nD) (g : Grp) (k : Fin 8) : Memref sig .tc .hbm S512x1024 .f32 := winR oM (gOff g c k) (gOff_inb g c k)

/-- The received chunk, readable by its item. -/
def itqP (c : Dev nD) (g : Grp) (k : Fin 8) : sProp 𝕄 := pts c (winQ c g k) (itShare g) (rFin m c)
/-- The own part, readable by its item. -/
def itlP (c : Dev nD) (g : Grp) (k : Fin 8) : sProp 𝕄 := pts c (winL c g k) fullShare.right (xFin m c)
/-- The result's chunk before and after it is stored. -/
def outP (c : Dev nD) (g : Grp) (k : Fin 8) : sProp 𝕄 := iprop(∃ f, pts c (winO c g k) fullShare f)
def outDP (c : Dev nD) (g : Grp) (k : Fin 8) : sProp 𝕄 := pts c (winO c g k) fullShare (outFin m c)

/-- The values that an item loads and the value that it stores. -/
def qVal (c : Dev nD) (i : Fin 32) : FVec F S512x1024 .f32 := (itQ c i).view.read (Elt F) (rFin m c)
def lVal (c : Dev nD) (i : Fin 32) : FVec F S512x1024 .f32 := (itL c i).view.read (Elt F) (xFin m c)
def oVal (c : Dev nD) (i : Fin 32) : FVec F S512x1024 .f32 := addf (lVal m c i) (qVal m c i)

/-- A slot of a buffer in fast memory, with any contents. -/
def qSlot (c : Dev nD) (n : Fin 8) : sProp 𝕄 := iprop(∃ f, pts c (slot8 qM n) fullShare f)
def lSlot (c : Dev nD) (n : Fin 8) : sProp 𝕄 := iprop(∃ f, pts c (slot8 lM n) fullShare f)
def oSlot (c : Dev nD) (n : Fin 4) : sProp 𝕄 := iprop(∃ f, pts c (slot4 bM n) fullShare f)
/-- The slot of an item, with the item's value. -/
def qFull (c : Dev nD) (i : Fin 32) : sProp 𝕄 :=
  iprop(∃ f, ⌜(slot8 qM (m8 i)).view.read (Elt F) f = qVal m c i⌝ ∗ pts c (slot8 qM (m8 i)) fullShare f)
def lFull (c : Dev nD) (i : Fin 32) : sProp 𝕄 :=
  iprop(∃ f, ⌜(slot8 lM (m8 i)).view.read (Elt F) f = lVal m c i⌝ ∗ pts c (slot8 lM (m8 i)) fullShare f)
def oFull (c : Dev nD) (i : Fin 32) : sProp 𝕄 :=
  iprop(∃ f, ⌜(slot4 bM (m4 i)).view.read (Elt F) f = oVal m c i⌝ ∗ pts c (slot4 bM (m4 i)) fullShare f)

instance srcP_storable (c ch k) : BI.Storable (upEmb : UEmb _ 𝕄) (srcP m c ch k) := by unfold srcP; infer_instance
instance peerP_storable (c ch k) : BI.Storable (upEmb : UEmb _ 𝕄) (peerP (F := F) c ch k) := by unfold peerP; infer_instance
instance gotP_storable (c ch k) : BI.Storable (upEmb : UEmb _ 𝕄) (gotP m c ch k) := by unfold gotP; infer_instance
instance outDP_storable (c g k) : BI.Storable (upEmb : UEmb _ 𝕄) (outDP m c g k) := by unfold outDP; infer_instance
instance oSlot_storable (c n) : BI.Storable (upEmb : UEmb _ 𝕄) (oSlot (F := F) c n) := by unfold oSlot; infer_instance
instance qFull_storable (c i) : BI.Storable (upEmb : UEmb _ 𝕄) (qFull m c i) := by unfold qFull; infer_instance
instance lFull_storable (c i) : BI.Storable (upEmb : UEmb _ 𝕄) (lFull m c i) := by unfold lFull; infer_instance

/-! ## The schedule -/

/-- What duty `n` of round `r` of a cell of device `c` hands over: a neighbour's signal, the regions of its
memory that `c` will write; a channel's landing, the data; an own copy, the filled slot; a store, the
stored chunk and the slot back. -/
def pay (c : Dev nD) (a : Cell) (r : ℕ) (n : Fin 3) : sProp 𝕄 :=
  match a with
  | .bar => sepL (fun p : Ch × Fin 8 => peerP c p.1 p.2) (toward n)
  | .send _ _ => iprop(emp)
  | .recv ch k => gotP m c ch k
  | .q s => if h : 8 * r + s.val < 32 then qFull m c ⟨8 * r + s.val, h⟩ else iprop(emp)
  | .l s => if h : 8 * r + s.val < 32 then lFull m c ⟨8 * r + s.val, h⟩ else iprop(emp)
  | .o s => if h : 4 * r + s.val < 32 then
      iprop(oSlot c s ∗ outDP m c (item ⟨4 * r + s.val, h⟩).1 (item ⟨4 * r + s.val, h⟩).2) else iprop(emp)

instance pay_storable (c : Dev nD) (a : Cell) (r : ℕ) (n : Fin 3) : BI.Storable (upEmb : UEmb _ 𝕄) (pay m c a r n) := by
  unfold pay; (repeat' split) <;> infer_instance

/-- The schedule of all cells of all devices. -/
def sched : Rounds.Schedule (GSem nD τ sig) (Fin 3) 𝕄 where
  duties g r := if g.1.2 = .tc ∧ r < (role g.2).rounds then (role g.2).payers else ∅
  unitless _ := False
  amount g _ _ := (role g.2).unit
  payload g r n := pay m g.1.1 (role g.2) r n
  amount_pos g _ _ _ := (role g.2).unit_pos

instance sched_storable (g : GSem nD τ sig) (r : ℕ) (n : Fin 3) :
    BI.Storable (upEmb : UEmb _ 𝕄) ((sched m).payload g r n) := pay_storable m g.1.1 (role g.2) r n

theorem duties_cell (c : Dev nD) (a : Cell) {r : ℕ} (h : r < a.rounds) : (sched m).duties (gcell c a) r = a.payers := by
  dsimp only [sched]; rw [role_sem]; exact if_pos ⟨rfl, h⟩
theorem duties_over (c : Dev nD) (a : Cell) (r : ℕ) (h : a.rounds ≤ r) : (sched m).duties (gcell c a) r = ∅ := by
  dsimp only [sched]; rw [role_sem]; exact if_neg fun h' => by omega
theorem amount_cell (c : Dev nD) (a : Cell) (r : ℕ) (n : Fin 3) : (sched m).amount (gcell c a) r n = a.unit := by
  dsimp only [sched]; rw [role_sem]
theorem payload_cell (c : Dev nD) (a : Cell) (r : ℕ) (n : Fin 3) : (sched m).payload (gcell c a) r n = pay m c a r n := by
  dsimp only [sched]; rw [role_sem]
theorem expect_cell (c : Dev nD) (a : Cell) {r : ℕ} (h : r < a.rounds) : (sched m).expect (gcell c a) r = a.total := by
  unfold Schedule.expect Schedule.amountOf
  rw [duties_cell m c a h, Finset.sum_congr rfl fun n _ => amount_cell m c a r n, Finset.sum_const, smul_eq_mul]
  cases a with
  | bar => rfl
  | _ => exact Nat.one_mul _

/-! ## Levels -/

def L (g : GSem nD τ sig) : Finset Unit := if g.1.2 = .tc then {()} else ∅
def lv (g : GSem nD τ sig) (_ : Unit) : ℕ := (role g.2).level

theorem L_of_ne (g : GSem nD τ sig) (h : g.1.2 ≠ .tc) : L g = ∅ := if_neg h
theorem L_tc (c : Dev nD) (s : SemLoc sig) : L ((c : Thread nD τ), s) = {()} := if_pos rfl

end Cert.Exchange

end
-- ==== Proof.Windows.lean ====
/-
The geometry of the windows. The rows of the result fall into thirty-two blocks of 512; every window of
the program is one block of rows, whole or by half, so that who owns what is a matter of block numbers.
-/
module

public import proofs.«01_k».proof.Proof.Proto
public import Idealize.ShloMosaic.Lib.ValueLayout
public import Idealize.ShloMosaic.Lib.Pipeline.ValueKit.Geometry

@[expose] public section

noncomputable section

namespace Cert.Exchange

open Cert.Kernel Cert.Kernel.Gen
open Idealize.ShloMosaic Idealize.ShloMosaic.TcCoe
open Idealize.SL Idealize.SL.Sem
open Idealize.ShloMosaic.ValueIdx (ix2 ix3 eq_ix2 eq_ix3 reshapeEquiv_ix2_1ab)

variable {F : FTy → Type} [FloatOps F]

/-! ## Block numbers -/

/-- The number of chunk `k` of a group among the blocks of 512 rows. -/
def blk (c : Dev nD) (g : Grp) (k : Fin 8) : ℕ :=
  match g with
  | .me => 16 * (c.val / 4) + 8 * (c.val % 2) + k.val
  | .x => 16 * (1 - c.val / 4) + 8 * (c.val % 2) + k.val
  | .z => 16 * (c.val / 4) + 8 * (1 - c.val % 2) + k.val
  | .d => 16 * (1 - c.val / 4) + 8 * (1 - c.val % 2) + k.val

/-- The group that a channel brings a chunk, or half a chunk, of. -/
def grpOf : Ch → Grp
  | .y => .me | .x => .x | .z => .z | .rz => .d | .rx => .d

theorem blk_inj {c : Dev nD} {g g' : Grp} {k k' : Fin 8} (h : blk c g k = blk c g' k') : g = g' ∧ k = k' := by
  have := dev_lt c; have := k.isLt; have := k'.isLt
  cases g <;> cases g' <;> simp only [blk] at h <;>
    first
    | exact ⟨rfl, Fin.ext (by omega)⟩
    | exact absurd h (by omega)

/-- The group that a block of rows belongs to. -/
def grpAt (c : Dev nD) (b : Fin 32) : Grp :=
  if b.val / 16 = c.val / 4 then (if b.val / 8 % 2 = c.val % 2 then .me else .z)
  else if b.val / 8 % 2 = c.val % 2 then .x else .d

/-- Every block of rows is a chunk of some group. -/
theorem blk_grpAt (c : Dev nD) (b : Fin 32) : blk c (grpAt c b) ⟨b.val % 8, Nat.mod_lt _ (by decide)⟩ = b.val := by
  revert c b; decide +kernel

/-! ## Offsets -/

theorem gOff_eq (c : Dev nD) (g : Grp) (k : Fin 8) : gOff g c k = ![512 * blk c g k, 0] := by
  cases g <;> revert c k <;> decide +kernel
theorem lOff_eq (c : Dev nD) (g : Grp) (k : Fin 8) : lOff g c k = ![0, 512 * blk c g k, 1024 * yOf c] := by
  cases g <;> revert c k <;> decide +kernel

theorem off1_eq (c : Dev nD) (k : Fin 8) : k0_off1 c (kw k) = ![512 * blk c .me k, 0] := gOff_eq c .me k
theorem off2_eq (c : Dev nD) (k : Fin 8) : k0_off2 c (kw k) = ![0, 512 * blk c .me k, 1024 * (1 - yOf c)] := by
  revert c k; decide +kernel
theorem off3_eq (c : Dev nD) (k : Fin 8) : k0_off3 c (kw k) = ![512 * blk c .x k, 0] := by
  revert c k; decide +kernel
theorem off4_eq (c : Dev nD) (k : Fin 8) : k0_off4 c (kw k) = ![512 * blk c .z k, 512] := by
  revert c k; decide +kernel

/-- What is a chunk of one group for the sender is a chunk of another for the receiver. -/
theorem blk_y (c : Dev nD) (k : Fin 8) : blk (target .y k c) .me k = blk c .me k := by
  revert c k; decide +kernel
theorem blk_x (c : Dev nD) (k : Fin 8) : blk (target .x k c) .me k = blk c .x k := by
  revert c k; decide +kernel
theorem blk_z (c : Dev nD) (k : Fin 8) : blk (target .z k c) .me k = blk c .z k := by
  revert c k; decide +kernel
theorem blk_rz (c : Dev nD) (k : Fin 8) : blk (target .rz k c) .x k = blk c .d k := by
  revert c k; decide +kernel
theorem blk_rx (c : Dev nD) (k : Fin 8) : blk (target .rx k c) .z k = blk c .d k := by
  revert c k; decide +kernel

/-! ## Which elements a window holds -/

/-- The rows of an array of the result's shape in block `b`, whole; in the left half; in the right half. -/
def rows (b : ℕ) : Finset S16384x1024.Idx := Finset.univ.filter fun i => (i 0).val / 512 = b
def rowsL (b : ℕ) : Finset S16384x1024.Idx := Finset.univ.filter fun i => (i 0).val / 512 = b ∧ (i 1).val < 512
def rowsR (b : ℕ) : Finset S16384x1024.Idx := Finset.univ.filter fun i => (i 0).val / 512 = b ∧ 512 ≤ (i 1).val
/-- The rows of the argument in block `b`, in half `y` of the columns. -/
def rowsX (b y : ℕ) : Finset S1x16384x2048.Idx :=
  Finset.univ.filter fun i => (i 1).val / 512 = b ∧ (i 2).val / 1024 = y

theorem mem_rows {b : ℕ} {i : S16384x1024.Idx} : i ∈ rows b ↔ (i 0).val / 512 = b := by simp [rows]
theorem mem_rowsL {b : ℕ} {i : S16384x1024.Idx} : i ∈ rowsL b ↔ (i 0).val / 512 = b ∧ (i 1).val < 512 := by simp [rowsL]
theorem mem_rowsR {b : ℕ} {i : S16384x1024.Idx} : i ∈ rowsR b ↔ (i 0).val / 512 = b ∧ 512 ≤ (i 1).val := by simp [rowsR]
theorem mem_rowsX {b y : ℕ} {i : S1x16384x2048.Idx} : i ∈ rowsX b y ↔ (i 1).val / 512 = b ∧ (i 2).val / 1024 = y := by
  simp [rowsX]

theorem unit_rows {off : Fin 2 → ℕ} {b : ℕ} (e : off = ![512 * b, 0]) (h) :
    (Rect.unit (s := S16384x1024) off S512x1024.size h).set = rows b := by
  subst e; ext i
  have h1 : (i 1).val < 1024 := (i 1).isLt
  rw [Rect.mem_set_unit, mem_rows, Fin.forall_fin_two]
  show (512 * b ≤ (i 0).val ∧ (i 0).val < 512 * b + 512) ∧ (0 ≤ (i 1).val ∧ (i 1).val < 0 + 1024) ↔ _
  omega
theorem unit_rowsL {off : Fin 2 → ℕ} {b : ℕ} (e : off = ![512 * b, 0]) (h) :
    (Rect.unit (s := S16384x1024) off S512x512.size h).set = rowsL b := by
  subst e; ext i
  rw [Rect.mem_set_unit, mem_rowsL, Fin.forall_fin_two]
  show (512 * b ≤ (i 0).val ∧ (i 0).val < 512 * b + 512) ∧ (0 ≤ (i 1).val ∧ (i 1).val < 0 + 512) ↔ _
  omega
theorem unit_rowsR {off : Fin 2 → ℕ} {b : ℕ} (e : off = ![512 * b, 512]) (h) :
    (Rect.unit (s := S16384x1024) off S512x512.size h).set = rowsR b := by
  subst e; ext i
  have h1 : (i 1).val < 1024 := (i 1).isLt
  rw [Rect.mem_set_unit, mem_rowsR, Fin.forall_fin_two]
  show (512 * b ≤ (i 0).val ∧ (i 0).val < 512 * b + 512) ∧ (512 ≤ (i 1).val ∧ (i 1).val < 512 + 512) ↔ _
  omega
theorem unit_rowsX {off : Fin 3 → ℕ} {b y : ℕ} (e : off = ![0, 512 * b, 1024 * y]) (h) :
    (Rect.unit (s := S1x16384x2048) off S1x512x1024.size h).set = rowsX b y := by
  subst e; ext i
  have h0 : (i 0).val < 1 := (i 0).isLt
  rw [Rect.mem_set_unit, mem_rowsX, Fin.forall_fin_succ, Fin.forall_fin_two]
  show (0 ≤ (i 0).val ∧ (i 0).val < 0 + 1) ∧ (512 * b ≤ (i 1).val ∧ (i 1).val < 512 * b + 512) ∧
    (1024 * y ≤ (i 2).val ∧ (i 2).val < 1024 * y + 1024) ↔ _
  omega

theorem set_winR {off : Fin 2 → ℕ} {b : ℕ} (e : off = ![512 * b, 0]) (h) : (winR rM off h).view.set = rows b :=
  (View.set_slice_whole _ _).trans (unit_rows e h)
theorem set_winRO {off : Fin 2 → ℕ} {b : ℕ} (e : off = ![512 * b, 0]) (h) : (winR oM off h).view.set = rows b :=
  (View.set_slice_whole _ _).trans (unit_rows e h)
theorem set_winHL {off : Fin 2 → ℕ} {b : ℕ} (e : off = ![512 * b, 0]) (h) : (winH rM off h).view.set = rowsL b :=
  (View.set_slice_whole _ _).trans (unit_rowsL e h)
theorem set_winHR {off : Fin 2 → ℕ} {b : ℕ} (e : off = ![512 * b, 512]) (h) : (winH rM off h).view.set = rowsR b :=
  (View.set_slice_whole _ _).trans (unit_rowsR e h)
theorem set_winX {off : Fin 3 → ℕ} {b y : ℕ} (e : off = ![0, 512 * b, 1024 * y]) (h) : (winX off h).view.set = rowsX b y :=
  (View.set_reshape _ _).trans ((View.set_slice_whole _ _).trans (unit_rowsX e h))

theorem rows_disjoint {b b' : ℕ} (h : b ≠ b') : Disjoint (rows b) (rows b') :=
  Finset.disjoint_left.mpr fun i hi hi' => h ((mem_rows.mp hi).symm.trans (mem_rows.mp hi'))
theorem rowsL_subset (b : ℕ) : rowsL b ⊆ rows b := fun i hi => mem_rows.mpr (mem_rowsL.mp hi).1
theorem rowsR_subset (b : ℕ) : rowsR b ⊆ rows b := fun i hi => mem_rows.mpr (mem_rowsR.mp hi).1
theorem rowsLR_disjoint (b : ℕ) : Disjoint (rowsL b) (rowsR b) :=
  Finset.disjoint_left.mpr fun i hi hi' => absurd (mem_rowsL.mp hi).2 (Nat.not_lt.mpr (mem_rowsR.mp hi').2)
theorem rowsLR_union (b : ℕ) : rowsL b ∪ rowsR b = rows b := by
  ext i; rw [Finset.mem_union, mem_rowsL, mem_rowsR, mem_rows]; omega
theorem rowsX_disjoint {b b' y y' : ℕ} (h : b ≠ b' ∨ y ≠ y') : Disjoint (rowsX b y) (rowsX b' y') :=
  Finset.disjoint_left.mpr fun i hi hi' => by
    have h1 := mem_rowsX.mp hi; have h2 := mem_rowsX.mp hi'
    rcases h with h | h
    · exact h (h1.1.symm.trans h2.1)
    · exact h (h1.2.symm.trans h2.2)

/-! ## Where a window puts an index -/

theorem emb_winR (b : ℕ) {off : Fin 2 → ℕ} (e : off = ![512 * b, 0]) (h) (j : S512x1024.Idx) :
    (((winR rM off h).view.emb j : S16384x1024.Idx) 0).val = 512 * b + (j 0).val ∧
    (((winR rM off h).view.emb j : S16384x1024.Idx) 1).val = (j 1).val := by
  subst e
  exact ⟨ValueKit.rect_emb_unit_val (s := S16384x1024) _ S512x1024.size h j 0,
    (ValueKit.rect_emb_unit_val (s := S16384x1024) _ S512x1024.size h j 1).trans (Nat.zero_add _)⟩

theorem emb_winX (b y : ℕ) {off : Fin 3 → ℕ} (e : off = ![0, 512 * b, 1024 * y]) (h) (j : S512x1024.Idx) :
    (((winX off h).view.emb j : S1x16384x2048.Idx) 1).val = 512 * b + (j 0).val ∧
    (((winX off h).view.emb j : S1x16384x2048.Idx) 2).val = 1024 * y + (j 1).val := by
  subst e
  obtain ⟨j0, j1, rfl⟩ : ∃ (j0 : Fin 512) (j1 : Fin 1024), j = ix2 j0 j1 := ⟨j 0, j 1, eq_ix2 j⟩
  have hr := reshapeEquiv_ix2_1ab squeezes_S1x512x1024_S512x1024.numel_eq j0 j1
  have he : (winX ![0, 512 * b, 1024 * y] h).view.emb (ix2 j0 j1)
      = (Rect.unit (s := S1x16384x2048) _ S1x512x1024.size h).emb (ix3 (0 : Fin 1) j0 j1) :=
    congrArg (Rect.unit (s := S1x16384x2048) _ S1x512x1024.size h).emb hr
  rw [he]
  exact ⟨ValueKit.rect_emb_unit_val (s := S1x16384x2048) _ S1x512x1024.size h _ 1,
    ValueKit.rect_emb_unit_val (s := S1x16384x2048) _ S1x512x1024.size h _ 2⟩

end Cert.Exchange

end
-- ==== Proof.Pieces.lean ====
/-
Cutting memory into the windows of the program and putting windows together again.
-/
module

public import proofs.«01_k».proof.Proof.Windows

@[expose] public section

noncomputable section

namespace Cert.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ UU ℕ

/-! ## Families along lists -/

theorem sepL_mono {ι : Type} {Φ Ψ : ι → sProp 𝕄} (h : ∀ a, Φ a ⊢ Ψ a) : ∀ l : List ι, sepL Φ l ⊢ sepL Ψ l
  | [] => Entails.refl _
  | a :: l => by
    show iprop(Φ a ∗ sepL Φ l) ⊢ iprop(Ψ a ∗ sepL Ψ l)
    exact BIClass.sep_mono (h a) (sepL_mono h l)

theorem sepL_append {ι : Type} (Φ : ι → sProp 𝕄) (l l' : List ι) :
    sepL Φ (l ++ l') ⊣⊢ iprop(sepL Φ l ∗ sepL Φ l') := by
  induction l with
  | nil =>
    show sepL Φ l' ⊣⊢ iprop(emp ∗ sepL Φ l')
    constructor
    · iintro H; isplitr; · iempintro
      iexact H
    · iintro ⟨-, H⟩; iexact H
  | cons a l ih =>
    show iprop(Φ a ∗ sepL Φ (l ++ l')) ⊣⊢ iprop((Φ a ∗ sepL Φ l) ∗ sepL Φ l')
    constructor
    · iintro ⟨H, H'⟩
      ihave H2 := ih.1 $$ H'
      icases H2 with ⟨H2, H3⟩
      isplitr [H3]
      · isplitl [H] <;> iassumption
      · iexact H3
    · iintro ⟨⟨H, H2⟩, H3⟩
      isplitl [H]; · iexact H
      iapply ih.2
      isplitl [H2] <;> iassumption

theorem sepL_map {ι κ : Type} (Φ : κ → sProp 𝕄) (f : ι → κ) : ∀ l : List ι, sepL Φ (l.map f) = sepL (fun a => Φ (f a)) l
  | [] => rfl
  | a :: l => by
    show iprop(Φ (f a) ∗ sepL Φ (l.map f)) = iprop(Φ (f a) ∗ sepL (fun a => Φ (f a)) l)
    rw [sepL_map Φ f l]

/-! ## Cutting and joining along a list -/

section Cut
variable {ℓ : Loc nD τ sig} {q : PosShare TreeShare} {ι : Type}

/-- Disjoint parts of a region, each on its own. -/
theorem carve (f : Buf (Elt F) ℓ) (K : ι → Finset (Idx ℓ)) : ∀ (l : List ι) (S : Finset (Idx ℓ)),
    l.Pairwise (fun a b => Disjoint (K a) (K b)) → (∀ a ∈ l, K a ⊆ S) →
    ((ℓ ↦[S]{q} f : sProp 𝕄) ⊢ sepL (fun a => ℓ ↦[K a]{q} f) l)
  | [], S, _, _ => by
    show _ ⊢ iprop(emp)
    iintro -; iempintro
  | a :: l, S, hd, hS => by
    rw [List.pairwise_cons] at hd
    show _ ⊢ iprop((ℓ ↦[K a]{q} f) ∗ sepL (fun a => ℓ ↦[K a]{q} f) l)
    refine (pointsTo_split_subset (hS a List.mem_cons_self)).1.trans (sep_mono_right ?_)
    exact carve f K l _ hd.2 fun b hb =>
      Finset.subset_sdiff.mpr ⟨hS b (List.mem_cons_of_mem _ hb), (hd.1 b hb).symm⟩

/-- The union of parts along a list. -/
def unionL (K : ι → Finset (Idx ℓ)) : List ι → Finset (Idx ℓ)
  | [] => ∅
  | a :: l => K a ∪ unionL K l

theorem mem_unionL {K : ι → Finset (Idx ℓ)} {i : Idx ℓ} : ∀ {l : List ι}, i ∈ unionL K l ↔ ∃ a ∈ l, i ∈ K a
  | [] => by simp [unionL]
  | a :: l => by rw [unionL, Finset.mem_union, mem_unionL]; simp

theorem disjoint_unionL {K : ι → Finset (Idx ℓ)} {a : ι} {l : List ι} (h : ∀ b ∈ l, Disjoint (K a) (K b)) :
    Disjoint (K a) (unionL K l) :=
  Finset.disjoint_left.mpr fun i hi hi' => by
    obtain ⟨b, hb, hib⟩ := mem_unionL.mp hi'
    exact Finset.disjoint_left.mp (h b hb) hi hib

/-- Disjoint parts with the same contents, joined. -/
theorem gather (f : Buf (Elt F) ℓ) (K : ι → Finset (Idx ℓ)) : ∀ l : List ι,
    l.Pairwise (fun a b => Disjoint (K a) (K b)) →
    (sepL (fun a => ℓ ↦[K a]{q} f) l ⊢ (ℓ ↦[unionL K l]{q} f : sProp 𝕄))
  | [], _ => by rw [unionL, pointsTo_empty]; exact Entails.refl _
  | a :: l, hd => by
    rw [List.pairwise_cons] at hd
    show iprop((ℓ ↦[K a]{q} f) ∗ sepL (fun a => ℓ ↦[K a]{q} f) l) ⊢ _
    rw [unionL]
    exact (sep_mono_right (gather f K l hd.2)).trans (pointsTo_union (disjoint_unionL hd.1)).2

/-- Disjoint parts, each with some contents, joined with some contents. -/
theorem gather_any (f₀ : Buf (Elt F) ℓ) (K : ι → Finset (Idx ℓ)) : ∀ l : List ι,
    l.Pairwise (fun a b => Disjoint (K a) (K b)) →
    (sepL (fun a => iprop(∃ f, ℓ ↦[K a]{q} f)) l ⊢ (iprop(∃ f, ℓ ↦[unionL K l]{q} f) : sProp 𝕄))
  | [], _ => by
    show iprop(emp) ⊢ _
    iintro -; iexists f₀; rw [unionL, pointsTo_empty]; iempintro
  | a :: l, hd => by
    rw [List.pairwise_cons] at hd
    show iprop((∃ f, ℓ ↦[K a]{q} f) ∗ sepL (fun a => iprop(∃ f, ℓ ↦[K a]{q} f)) l) ⊢ _
    iintro ⟨⟨%f, H⟩, H'⟩
    ihave H2 := (gather_any f₀ K l hd.2) $$ H'
    icases H2 with ⟨%g, H2⟩
    ihave H3 := (pointsTo_join (disjoint_unionL hd.1)) $$ [H H2]
    · isplitl [H] <;> iassumption
    iexists _; rw [unionL]; iexact H3

end Cut

/-! ## Lists of windows -/

/-- All landing regions of a device, in the order of the signals. -/
def allCh : List (Ch × Fin 8) := toward 0 ++ (toward 1 ++ toward 2)
/-- All chunks of all groups. -/
def allG : List (Grp × Fin 8) := [Grp.me, .x, .z, .d].flatMap fun g => (List.finRange 8).map fun k => (g, k)

theorem mem_allG (g : Grp) (k : Fin 8) : (g, k) ∈ allG := by cases g <;> revert k <;> decide +kernel

theorem pairwise_of_inj {ι : Type} {R : ι → ι → Prop} {l : List ι} (hl : l.Nodup) (h : ∀ a b, a ≠ b → R a b) :
    l.Pairwise R := hl.imp fun {a b} hab => h a b hab

theorem nodup_allG : allG.Nodup := by decide +kernel
theorem nodup_allCh : allCh.Nodup := by decide +kernel

/-- The elements of a device's array that a channel's sender writes. -/
def landSet (c : Dev nD) (p : Ch × Fin 8) : Finset S16384x1024.Idx :=
  match p.1 with
  | .y => rows (blk c .me p.2)
  | .x => rows (blk c .x p.2)
  | .z => rows (blk c .z p.2)
  | .rz => rowsL (blk c .d p.2)
  | .rx => rowsR (blk c .d p.2)

theorem landSet_subset (c : Dev nD) (p : Ch × Fin 8) : landSet c p ⊆ rows (blk c (grpOf p.1) p.2) := by
  obtain ⟨ch, k⟩ := p
  cases ch with
  | y => exact fun _ h => h
  | x => exact fun _ h => h
  | z => exact fun _ h => h
  | rz => exact rowsL_subset _
  | rx => exact rowsR_subset _

theorem landSet_disjoint (c : Dev nD) (p p' : Ch × Fin 8) (h : p ≠ p') : Disjoint (landSet c p) (landSet c p') := by
  by_cases hb : blk c (grpOf p.1) p.2 = blk c (grpOf p'.1) p'.2
  · obtain ⟨ch, k⟩ := p
    obtain ⟨ch', k'⟩ := p'
    obtain ⟨hg, hk⟩ := blk_inj hb
    dsimp only at hg hk
    subst hk
    cases ch <;> cases ch' <;> try first | exact absurd rfl h | exact absurd hg (by decide)
    · exact rowsLR_disjoint _
    · exact (rowsLR_disjoint _).symm
  · exact (rows_disjoint hb).mono (landSet_subset c p) (landSet_subset c p')

theorem set_land (c : Dev nD) (ch : Ch) (k : Fin 8) :
    (match ch with
      | .y => (chDst .y (target .y k c) k).view.set = landSet c (.y, k)
      | .x => (chDst .x (target .x k c) k).view.set = landSet c (.x, k)
      | .z => (chDst .z (target .z k c) k).view.set = landSet c (.z, k)
      | .rz => (chDst .rz (target .rz k c) k).view.set = landSet c (.rz, k)
      | .rx => (chDst .rx (target .rx k c) k).view.set = landSet c (.rx, k)) := by
  cases ch
  · exact set_winR ((off1_eq _ k).trans (by rw [blk_y])) _
  · exact set_winR ((off1_eq _ k).trans (by rw [blk_x])) _
  · exact set_winR ((off1_eq _ k).trans (by rw [blk_z])) _
  · exact set_winHL ((off3_eq _ k).trans (by rw [blk_rz])) _
  · exact set_winHR ((off4_eq _ k).trans (by rw [blk_rx])) _

/-- A part of the array received into, with some contents. -/
abbrev rPts (c : Dev nD) (q : PosShare TreeShare) (S : Finset S16384x1024.Idx) (f : Buf (Elt F) ((c : Thread nD τ).loc main_v1_1)) :
    sProp 𝕄 := ((c : Thread nD τ).loc main_v1_1) ↦[S]{q} f

theorem gotP_eq (c : Dev nD) (ch : Ch) (k : Fin 8) : gotP m c ch k = rPts c fullShare (landSet c (ch, k)) (rFin m c) := by
  have h := set_land c ch k
  cases ch <;> exact congrArg (fun S => rPts c fullShare S (rFin m c)) h
theorem landP_eq (c : Dev nD) (ch : Ch) (k : Fin 8) :
    (landP c ch k : sProp 𝕄) = iprop(∃ f, rPts c fullShare (landSet c (ch, k)) f) := by
  have h := set_land c ch k
  cases ch <;> exact congrArg (fun S => iprop(∃ f, rPts c fullShare S f)) h
theorem itqP_eq (c : Dev nD) (g : Grp) (k : Fin 8) : itqP m c g k = rPts c (itShare g) (rows (blk c g k)) (rFin m c) :=
  congrArg (fun S => rPts c (itShare g) S (rFin m c)) (set_winR (gOff_eq c g k) (gOff_inb g c k))

/-! ## What has landed, handed on -/

theorem srcP_x_eq (c : Dev nD) (k : Fin 8) :
    srcP m c .x k = rPts c fullShare.left.left (rows (blk c .me k)) (rFin m c) :=
  congrArg (fun S => rPts c fullShare.left.left S (rFin m c)) (set_winR (off1_eq c k) (k0_off1_inb c k))
theorem srcP_z_eq (c : Dev nD) (k : Fin 8) :
    srcP m c .z k = rPts c fullShare.left.right (rows (blk c .me k)) (rFin m c) :=
  congrArg (fun S => rPts c fullShare.left.right S (rFin m c)) (set_winR (off1_eq c k) (k0_off1_inb c k))
theorem srcP_rz_eq (c : Dev nD) (k : Fin 8) :
    srcP m c .rz k = rPts c fullShare.left (rowsL (blk c .x k)) (rFin m c) :=
  congrArg (fun S => rPts c fullShare.left S (rFin m c)) (set_winHL (off3_eq c k) (k0_off3_inb c k))
theorem srcP_rx_eq (c : Dev nD) (k : Fin 8) :
    srcP m c .rx k = rPts c fullShare.left (rowsR (blk c .z k)) (rFin m c) :=
  congrArg (fun S => rPts c fullShare.left S (rFin m c)) (set_winHR (off4_eq c k) (k0_off4_inb c k))

/-- A share in two. -/
theorem halve (c : Dev nD) (q : PosShare TreeShare) (S : Finset S16384x1024.Idx) (f) :
    (rPts c q S f : sProp 𝕄) ⊢ iprop(rPts c q.left S f ∗ rPts c q.right S f) :=
  (pointsTo_share (PosShare.mem_left_op_right q)).1

/-- The chunk from the other side serves two sends and an addition. -/
theorem got_y (c : Dev nD) (k : Fin 8) :
    gotP m c .y k ⊢ iprop(srcP m c .x k ∗ srcP m c .z k ∗ itqP m c .me k) := by
  rw [gotP_eq, srcP_x_eq, srcP_z_eq, itqP_eq]
  show rPts c fullShare (rows (blk c .me k)) (rFin m c) ⊢ _
  iintro H
  ihave H := (halve c fullShare (rows (blk c .me k)) (rFin m c)) $$ H
  icases H with ⟨H1, H2⟩
  ihave H1 := (halve c fullShare.left (rows (blk c .me k)) (rFin m c)) $$ H1
  icases H1 with ⟨H1, H3⟩
  isplitl [H1]; · iexact H1
  isplitl [H3]; · iexact H3
  iexact H2

/-- A share of a block in two, and of the first half of it a part only. -/
theorem halve_part (c : Dev nD) (b : ℕ) (S : Finset S16384x1024.Idx) (hS : S ⊆ rows b) (f) :
    (rPts c fullShare (rows b) f : sProp 𝕄) ⊢ iprop(rPts c fullShare.left S f ∗ rPts c fullShare.right (rows b) f) :=
  (halve c fullShare (rows b) f).trans (sep_mono_left ((pointsTo_split_subset hS).1.trans (by iintro ⟨H, -⟩; iexact H)))

/-- The chunk from the x-neighbour serves a relay of its left half and an addition; -/
theorem got_x (c : Dev nD) (k : Fin 8) : gotP m c .x k ⊢ iprop(srcP m c .rz k ∗ itqP m c .x k) := by
  rw [gotP_eq, srcP_rz_eq, itqP_eq]
  exact halve_part c _ _ (rowsL_subset _) _
/-- the chunk from the z-neighbour, a relay of its right half and an addition. -/
theorem got_z (c : Dev nD) (k : Fin 8) : gotP m c .z k ⊢ iprop(srcP m c .rx k ∗ itqP m c .z k) := by
  rw [gotP_eq, srcP_rx_eq, itqP_eq]
  exact halve_part c _ _ (rowsR_subset _) _
/-- The two relayed halves make a chunk. -/
theorem got_d (c : Dev nD) (k : Fin 8) : iprop(gotP m c .rz k ∗ gotP m c .rx k) ⊢ itqP m c .d k := by
  rw [gotP_eq, gotP_eq, itqP_eq, ← rowsLR_union]
  exact (pointsTo_union (rowsLR_disjoint _)).2

/-! ## The arrays at the start and at the end -/

theorem cut_r (c : Dev nD) (f : Buf (Elt F) ((c : Thread nD τ).loc main_v1_1)) :
    ((((c : Thread nD τ).loc main_v1_1) ↦{fullShare} f : sProp 𝕄)) ⊢ sepL (fun p : Ch × Fin 8 => landP c p.1 p.2) allCh := by
  refine (carve f (landSet c) allCh Finset.univ (pairwise_of_inj nodup_allCh (landSet_disjoint c))
    fun _ _ => Finset.subset_univ _).trans (sepL_mono (fun p => ?_) _)
  rw [landP_eq]
  iintro H; iexists f; iexact H

theorem outSet_disjoint (c : Dev nD) (p p' : Grp × Fin 8) (h : p ≠ p') :
    Disjoint (rows (blk c p.1 p.2)) (rows (blk c p'.1 p'.2)) :=
  rows_disjoint fun hb => h (Prod.ext (blk_inj hb).1 (blk_inj hb).2)

theorem outSet_cover (c : Dev nD) :
    (unionL (ℓ := (c : Thread nD τ).loc main_v1_0) (fun p : Grp × Fin 8 => rows (blk c p.1 p.2)) allG) = Finset.univ := by
  refine Finset.eq_univ_iff_forall.mpr fun i => ?_
  have hi : ((i : S16384x1024.Idx) 0).val < 16384 := ((i : S16384x1024.Idx) 0).isLt
  have hb := blk_grpAt c ⟨((i : S16384x1024.Idx) 0).val / 512, by omega⟩
  exact mem_unionL.mpr ⟨(_, _), mem_allG _ _, mem_rows.mpr hb.symm⟩

theorem outP_eq (c : Dev nD) (g : Grp) (k : Fin 8) :
    (outP c g k : sProp 𝕄) = iprop(∃ f, ((c : Thread nD τ).loc main_v1_0) ↦[rows (blk c g k)]{fullShare} f) :=
  congrArg (fun S => iprop(∃ f, ((c : Thread nD τ).loc main_v1_0) ↦[S]{fullShare} f)) (set_winRO (gOff_eq c g k) (gOff_inb g c k))
theorem outDP_eq (c : Dev nD) (g : Grp) (k : Fin 8) :
    outDP m c g k = (((c : Thread nD τ).loc main_v1_0) ↦[rows (blk c g k)]{fullShare} (outFin m c) : sProp 𝕄) :=
  congrArg (fun S => ((c : Thread nD τ).loc main_v1_0) ↦[S]{fullShare} (outFin m c)) (set_winRO (gOff_eq c g k) (gOff_inb g c k))

theorem cut_out (c : Dev nD) (f : Buf (Elt F) ((c : Thread nD τ).loc main_v1_0)) :
    ((((c : Thread nD τ).loc main_v1_0) ↦{fullShare} f : sProp 𝕄)) ⊢ sepL (fun p : Grp × Fin 8 => outP c p.1 p.2) allG := by
  refine (carve f (fun p : Grp × Fin 8 => rows (blk c p.1 p.2)) allG Finset.univ
    (pairwise_of_inj nodup_allG (outSet_disjoint c)) fun _ _ => Finset.subset_univ _).trans (sepL_mono (fun p => ?_) _)
  rw [outP_eq]
  iintro H; iexists f; iexact H

/-- The stored chunks make the result. -/
theorem join_out (c : Dev nD) :
    sepL (fun p : Grp × Fin 8 => outDP m c p.1 p.2) allG ⊢ (((c : Thread nD τ).loc main_v1_0) ↦{fullShare} (outFin m c) : sProp 𝕄) := by
  rw [funext (fun p : Grp × Fin 8 => outDP_eq m c p.1 p.2)]
  refine (gather (ℓ := (c : Thread nD τ).loc main_v1_0) (outFin m c) (fun p : Grp × Fin 8 => rows (blk c p.1 p.2)) allG
    (pairwise_of_inj nodup_allG (outSet_disjoint c))).trans (Entails.of_eq ?_)
  exact congrArg (fun S => (((c : Thread nD τ).loc main_v1_0) ↦[S]{fullShare} (outFin m c) : sProp 𝕄)) (outSet_cover c)

/-- The windows of the argument: what is sent to the other side, and the own parts. -/
def xSet (c : Dev nD) (p : Bool × (Grp × Fin 8)) : Finset S1x16384x2048.Idx :=
  rowsX (blk c p.2.1 p.2.2) (if p.1 then 1 - yOf c else yOf c)

theorem xSet_disjoint (c : Dev nD) (p p' : Bool × (Grp × Fin 8)) (h : p ≠ p') : Disjoint (xSet c p) (xSet c p') := by
  obtain ⟨b, g, k⟩ := p
  obtain ⟨b', g', k'⟩ := p'
  refine rowsX_disjoint ?_
  by_cases hb : blk c g k = blk c g' k'
  · obtain ⟨rfl, rfl⟩ := blk_inj hb
    refine Or.inr ?_
    have : yOf c < 2 := Nat.mod_lt _ (by decide)
    cases b <;> cases b' <;> first | exact absurd rfl h | (simp only [if_true, Bool.false_eq_true, if_false]; omega)
  · exact Or.inl hb

def allX : List (Bool × (Grp × Fin 8)) :=
  ((List.finRange 8).map fun k => (true, (.me, k))) ++ allG.map fun p => (false, p)

theorem nodup_allX : allX.Nodup := by decide +kernel

theorem srcP_y_eq (c : Dev nD) (k : Fin 8) :
    srcP m c .y k = (((c : Thread nD τ).loc main_arg0) ↦[xSet c (true, (.me, k))]{fullShare.right} (xFin m c) : sProp 𝕄) :=
  congrArg (fun S => ((c : Thread nD τ).loc main_arg0) ↦[S]{fullShare.right} (xFin m c)) (set_winX (off2_eq c k) (k0_off2_inb c k))
theorem itlP_eq (c : Dev nD) (g : Grp) (k : Fin 8) :
    itlP m c g k = (((c : Thread nD τ).loc main_arg0) ↦[xSet c (false, (g, k))]{fullShare.right} (xFin m c) : sProp 𝕄) :=
  congrArg (fun S => ((c : Thread nD τ).loc main_arg0) ↦[S]{fullShare.right} (xFin m c)) (set_winX (lOff_eq c g k) (lOff_inb g c k))

theorem cut_x (c : Dev nD) :
    ((((c : Thread nD τ).loc main_arg0) ↦{fullShare} (xFin m c) : sProp 𝕄))
      ⊢ iprop((((c : Thread nD τ).loc main_arg0) ↦{fullShare.left} (xFin m c)) ∗ sepL (fun k => srcP m c .y k) (List.finRange 8)
          ∗ sepL (fun p : Grp × Fin 8 => itlP m c p.1 p.2) allG) := by
  refine (pointsTo_share (PosShare.mem_left_op_right fullShare)).1.trans (sep_mono_right ?_)
  refine (carve (xFin m c) (xSet c) allX Finset.univ (pairwise_of_inj nodup_allX (xSet_disjoint c))
    fun _ _ => Finset.subset_univ _).trans ?_
  rw [funext (fun k => srcP_y_eq m c k), funext (fun p : Grp × Fin 8 => itlP_eq m c p.1 p.2)]
  refine (sepL_append _ _ _).1.trans (Entails.of_eq ?_)
  rw [sepL_map, sepL_map]

/-! ## The buffers in fast memory -/

def plane8 (n : Fin 8) : Finset S8x512x1024.Idx := Finset.univ.filter fun i => (i 0).val = n.val
def plane4 (n : Fin 4) : Finset S4x512x1024.Idx := Finset.univ.filter fun i => (i 0).val = n.val
theorem mem_plane8 {n : Fin 8} {i : S8x512x1024.Idx} : i ∈ plane8 n ↔ (i 0).val = n.val := by simp [plane8]
theorem mem_plane4 {n : Fin 4} {i : S4x512x1024.Idx} : i ∈ plane4 n ↔ (i 0).val = n.val := by simp [plane4]

theorem rect8_set (n : Fin 8) : (rect8 n).set = plane8 n := by
  ext i
  have h1 : (i 1).val < 512 := (i 1).isLt
  have h2 : (i 2).val < 1024 := (i 2).isLt
  rw [Rect.mem_set_unit, mem_plane8, Fin.forall_fin_succ, Fin.forall_fin_two]
  show (n.val ≤ (i 0).val ∧ (i 0).val < n.val + 1) ∧ (0 ≤ (i 1).val ∧ (i 1).val < 0 + 512) ∧
    (0 ≤ (i 2).val ∧ (i 2).val < 0 + 1024) ↔ _
  omega
theorem rect4_set (n : Fin 4) : (rect4 n).set = plane4 n := by
  ext i
  have h1 : (i 1).val < 512 := (i 1).isLt
  have h2 : (i 2).val < 1024 := (i 2).isLt
  rw [Rect.mem_set_unit, mem_plane4, Fin.forall_fin_succ, Fin.forall_fin_two]
  show (n.val ≤ (i 0).val ∧ (i 0).val < n.val + 1) ∧ (0 ≤ (i 1).val ∧ (i 1).val < 0 + 512) ∧
    (0 ≤ (i 2).val ∧ (i 2).val < 0 + 1024) ↔ _
  omega

theorem set_slotQ (n : Fin 8) : (slot8 qM n).view.set = plane8 n :=
  (View.set_reshape _ _).trans ((View.set_slice_whole _ _).trans (rect8_set n))
theorem set_slotL (n : Fin 8) : (slot8 lM n).view.set = plane8 n :=
  (View.set_reshape _ _).trans ((View.set_slice_whole _ _).trans (rect8_set n))
theorem set_slotO (n : Fin 4) : (slot4 bM n).view.set = plane4 n :=
  (View.set_reshape _ _).trans ((View.set_slice_whole _ _).trans (rect4_set n))

theorem plane8_disjoint (a b : Fin 8) (h : a ≠ b) : Disjoint (plane8 a) (plane8 b) :=
  Finset.disjoint_left.mpr fun i hi hi' => h (Fin.ext ((mem_plane8.mp hi).symm.trans (mem_plane8.mp hi')))
theorem plane4_disjoint (a b : Fin 4) (h : a ≠ b) : Disjoint (plane4 a) (plane4 b) :=
  Finset.disjoint_left.mpr fun i hi hi' => h (Fin.ext ((mem_plane4.mp hi).symm.trans (mem_plane4.mp hi')))

theorem qSlot_eq (c : Dev nD) (n : Fin 8) :
    (qSlot c n : sProp 𝕄) = iprop(∃ f, ((c : Thread nD τ).loc cc0_scratch0) ↦[plane8 n]{fullShare} f) :=
  congrArg (fun S => iprop(∃ f, ((c : Thread nD τ).loc cc0_scratch0) ↦[S]{fullShare} f)) (set_slotQ n)
theorem lSlot_eq (c : Dev nD) (n : Fin 8) :
    (lSlot c n : sProp 𝕄) = iprop(∃ f, ((c : Thread nD τ).loc cc0_scratch1) ↦[plane8 n]{fullShare} f) :=
  congrArg (fun S => iprop(∃ f, ((c : Thread nD τ).loc cc0_scratch1) ↦[S]{fullShare} f)) (set_slotL n)
theorem oSlot_eq (c : Dev nD) (n : Fin 4) :
    (oSlot c n : sProp 𝕄) = iprop(∃ f, ((c : Thread nD τ).loc cc0_scratch2) ↦[plane4 n]{fullShare} f) :=
  congrArg (fun S => iprop(∃ f, ((c : Thread nD τ).loc cc0_scratch2) ↦[S]{fullShare} f)) (set_slotO n)

theorem cut_slots {ℓ : Loc nD τ sig} {n : ℕ} (K : Fin n → Finset (Idx ℓ)) (hK : ∀ a b, a ≠ b → Disjoint (K a) (K b)) :
    (iprop(∃ f, ℓ ↦{fullShare} f) : sProp 𝕄) ⊢ sepL (fun a => iprop(∃ f, ℓ ↦[K a]{fullShare} f)) (List.finRange n) := by
  iintro ⟨%f, H⟩
  iapply ((carve f K (List.finRange n) Finset.univ (pairwise_of_inj (List.nodup_finRange n) hK)
    fun _ _ => Finset.subset_univ _).trans (sepL_mono (fun a => by iintro H; iexists f; iexact H) _))
  iexact H

theorem join_slots {ℓ : Loc nD τ sig} {n : ℕ} (f₀ : Buf (Elt F) ℓ) (K : Fin n → Finset (Idx ℓ)) (hK : ∀ a b, a ≠ b → Disjoint (K a) (K b))
    (hc : ∀ i, ∃ a, i ∈ K a) :
    sepL (fun a => iprop(∃ f, ℓ ↦[K a]{fullShare} f)) (List.finRange n) ⊢ (iprop(∃ f, ℓ ↦{fullShare} f) : sProp 𝕄) := by
  refine (gather_any f₀ K (List.finRange n) (pairwise_of_inj (List.nodup_finRange n) hK)).trans (Entails.of_eq ?_)
  rw [show unionL K (List.finRange n) = Finset.univ from Finset.eq_univ_iff_forall.mpr fun i => by
    obtain ⟨a, ha⟩ := hc i; exact mem_unionL.mpr ⟨a, List.mem_finRange a, ha⟩]

theorem cut_q (c : Dev nD) : (iprop(∃ f, ((c : Thread nD τ).loc cc0_scratch0) ↦{fullShare} f) : sProp 𝕄)
    ⊢ sepL (fun n => qSlot c n) (List.finRange 8) := by
  rw [funext (fun n => qSlot_eq (F := F) c n)]
  exact cut_slots (ℓ := ((c : Thread nD τ).loc cc0_scratch0)) plane8 plane8_disjoint
theorem cut_l (c : Dev nD) : (iprop(∃ f, ((c : Thread nD τ).loc cc0_scratch1) ↦{fullShare} f) : sProp 𝕄)
    ⊢ sepL (fun n => lSlot c n) (List.finRange 8) := by
  rw [funext (fun n => lSlot_eq (F := F) c n)]
  exact cut_slots (ℓ := ((c : Thread nD τ).loc cc0_scratch1)) plane8 plane8_disjoint
theorem cut_o (c : Dev nD) : (iprop(∃ f, ((c : Thread nD τ).loc cc0_scratch2) ↦{fullShare} f) : sProp 𝕄)
    ⊢ sepL (fun n => oSlot c n) (List.finRange 4) := by
  rw [funext (fun n => oSlot_eq (F := F) c n)]
  exact cut_slots (ℓ := ((c : Thread nD τ).loc cc0_scratch2)) plane4 plane4_disjoint
theorem join_q (c : Dev nD) (f₀ : Buf (Elt F) ((c : Thread nD τ).loc cc0_scratch0)) : sepL (fun n => qSlot c n) (List.finRange 8)
    ⊢ (iprop(∃ f, ((c : Thread nD τ).loc cc0_scratch0) ↦{fullShare} f) : sProp 𝕄) := by
  rw [funext (fun n => qSlot_eq (F := F) c n)]
  exact join_slots (ℓ := ((c : Thread nD τ).loc cc0_scratch0)) f₀ plane8 plane8_disjoint fun i => ⟨(i : S8x512x1024.Idx) 0, mem_plane8.mpr rfl⟩
theorem join_l (c : Dev nD) (f₀ : Buf (Elt F) ((c : Thread nD τ).loc cc0_scratch1)) : sepL (fun n => lSlot c n) (List.finRange 8)
    ⊢ (iprop(∃ f, ((c : Thread nD τ).loc cc0_scratch1) ↦{fullShare} f) : sProp 𝕄) := by
  rw [funext (fun n => lSlot_eq (F := F) c n)]
  exact join_slots (ℓ := ((c : Thread nD τ).loc cc0_scratch1)) f₀ plane8 plane8_disjoint fun i => ⟨(i : S8x512x1024.Idx) 0, mem_plane8.mpr rfl⟩
theorem join_o (c : Dev nD) (f₀ : Buf (Elt F) ((c : Thread nD τ).loc cc0_scratch2)) : sepL (fun n => oSlot c n) (List.finRange 4)
    ⊢ (iprop(∃ f, ((c : Thread nD τ).loc cc0_scratch2) ↦{fullShare} f) : sProp 𝕄) := by
  rw [funext (fun n => oSlot_eq (F := F) c n)]
  exact join_slots (ℓ := ((c : Thread nD τ).loc cc0_scratch2)) f₀ plane4 plane4_disjoint fun i => ⟨(i : S4x512x1024.Idx) 0, mem_plane4.mpr rfl⟩
end Cert.Exchange

end
-- ==== Proof.Net.lean ====
/-
What each command takes and gives back, as a bookkeeping of named resources, and the function that runs a script
on it.
-/
module

public import proofs.«01_k».proof.Proof.Pieces

@[expose] public section

namespace Cert.Exchange

/-- A resource of a device: a channel's source; a landing region, its own or a neighbour's; the first half of
a relayed chunk; the windows of a group's chunk (received, own part, result before and after); a slot free or
filled with an item's value; the right to raise a neighbour's barrier, a neighbour's landing semaphore or
an own semaphore in a round; the credit for one wait; the position on an own semaphore. -/
inductive Res
  | src (ch : Ch) (k : Fin 8)
  | land (ch : Ch) (k : Fin 8)
  | peer (ch : Ch) (k : Fin 8)
  | half (k : Fin 8)
  | itq (g : Grp) (k : Fin 8)
  | itl (g : Grp) (k : Fin 8)
  | out (g : Grp) (k : Fin 8)
  | outD (g : Grp) (k : Fin 8)
  | qslot (n : Fin 8)
  | lslot (n : Fin 8)
  | oslot (n : Fin 4)
  | qfull (i : Fin 32)
  | lfull (i : Fin 32)
  | ofull (i : Fin 32)
  | tokB (n : Fin 3)
  | tokR (ch : Ch) (k : Fin 8)
  | tok (a : Cell) (r : ℕ)
  | cred (a : Cell)
  | pos (a : Cell) (r : ℕ)
  deriving DecidableEq

/-- What a command takes. -/
def Cmd.pre : Cmd → List Res
  | .sig n => .tokB n :: (toward n).map fun p => .land p.1 p.2
  | .bar => [.cred .bar, .pos .bar 0]
  | .start ch k => [.src ch k, .peer ch k, .tok (.send ch k) 0, .pos (.send ch k) 0, .tokR ch k]
  | .recv .rx k => [.cred (.recv .rx k), .pos (.recv .rx k) 0, .half k]
  | .recv ch k => [.cred (.recv ch k), .pos (.recv ch k) 0]
  | .sent ch k => [.cred (.send ch k), .pos (.send ch k) 0]
  | .fetchQ i => [.itq (item i).1 (item i).2, .qslot (m8 i), .tok (.q (m8 i)) (i.val / 8), .pos (.q (m8 i)) (i.val / 8)]
  | .fetchL i => [.itl (item i).1 (item i).2, .lslot (m8 i), .tok (.l (m8 i)) (i.val / 8), .pos (.l (m8 i)) (i.val / 8)]
  | .gotQ i => [.cred (.q (m8 i)), .pos (.q (m8 i)) (i.val / 8)]
  | .gotL i => [.cred (.l (m8 i)), .pos (.l (m8 i)) (i.val / 8)]
  | .freeO j => [.cred (.o (m4 j)), .pos (.o (m4 j)) (j.val / 4)]
  | .add i => [.lfull i, .qfull i, .oslot (m4 i)]
  | .put i => [.ofull i, .out (item i).1 (item i).2, .tok (.o (m4 i)) (i.val / 4), .pos (.o (m4 i)) (i.val / 4)]

/-- What comes with the data of a channel, once it is handed on. -/
def arrives : Ch → Fin 8 → List Res
  | .y, k => [.src .x k, .src .z k, .itq .me k]
  | .x, k => [.src .rz k, .itq .x k]
  | .z, k => [.src .rx k, .itq .z k]
  | .rz, k => [.half k]
  | .rx, k => [.itq .d k]

/-- What a command gives back. -/
def Cmd.post : Cmd → List Res
  | .sig _ => []
  | .bar => .pos .bar 1 :: allCh.map fun p => .peer p.1 p.2
  | .start ch k => [.cred (.send ch k), .pos (.send ch k) 0]
  | .recv ch k => .pos (.recv ch k) 1 :: arrives ch k
  | .sent ch k => [.pos (.send ch k) 1]
  | .fetchQ i => [.cred (.q (m8 i)), .pos (.q (m8 i)) (i.val / 8)]
  | .fetchL i => [.cred (.l (m8 i)), .pos (.l (m8 i)) (i.val / 8)]
  | .gotQ i => [.pos (.q (m8 i)) (i.val / 8 + 1), .qfull i]
  | .gotL i => [.pos (.l (m8 i)) (i.val / 8 + 1), .lfull i]
  | .freeO j => [.pos (.o (m4 j)) (j.val / 4 + 1), .oslot (m4 j), .outD (item j).1 (item j).2]
  | .add i => [.lslot (m8 i), .qslot (m8 i), .ofull i]
  | .put i => [.cred (.o (m4 i)), .pos (.o (m4 i)) (i.val / 4)]

/-- The cell that a command waits on. -/
def Cmd.waits : Cmd → Option Cell
  | .bar => some .bar
  | .recv ch k => some (.recv ch k)
  | .sent ch k => some (.send ch k)
  | .gotQ i => some (.q (m8 i))
  | .gotL i => some (.l (m8 i))
  | .freeO j => some (.o (m4 j))
  | _ => none

/-- Whether every raise of a neighbour's semaphore that a command is to make stands above a level. -/
def Cmd.above (n : ℕ) : Cmd → Bool
  | .sig _ => decide (n < Cell.level .bar)
  | .start ch k => decide (n < Cell.level (.recv ch k))
  | _ => true

/-- Whether a command may wait, before the commands that follow. -/
def mayRun (c : Cmd) (cs : List Cmd) : Bool :=
  match c.waits with
  | none => true
  | some a => cs.all (Cmd.above a.level)

/-- One resource, then several, taken out of a list. -/
def take1 (a : Res) : List Res → Option (List Res)
  | [] => none
  | b :: l => if a = b then some l else (take1 a l).map (b :: ·)
def takeAll : List Res → List Res → Option (List Res)
  | [], l => some l
  | a :: p, l => (take1 a l).bind (takeAll p)

/-- Run the script on the bookkeeping. -/
def check : List Cmd → List Res → Option (List Res)
  | [], s => some s
  | c :: cs, s => if mayRun c cs then (takeAll c.pre s).bind fun s' => check cs (c.post ++ s') else none

/-! ## The start and the end -/

/-- All semaphores of a device, by role. -/
def allCells : List Cell :=
  (allCh.map fun p => .send p.1 p.2) ++ ((allCh.map fun p => .recv p.1 p.2) ++
    ((List.finRange 8).map .q ++ ((List.finRange 8).map .l ++ ((List.finRange 4).map .o ++ [.bar]))))

/-- The rounds of the semaphores that a device raises itself. -/
def ownToks : List (Cell × ℕ) :=
  (allCh.map fun p => (.send p.1 p.2, 0)) ++
    (((List.finRange 8).flatMap fun n => (List.range 4).map fun r => (Cell.q n, r)) ++
    (((List.finRange 8).flatMap fun n => (List.range 4).map fun r => (Cell.l n, r)) ++
      ((List.finRange 4).flatMap fun n => (List.range 8).map fun r => (Cell.o n, r))))

/-- The memory that a device holds at the start, its rights, its positions and its credits. -/
def initMem : List Res :=
  (allCh.map fun p => .land p.1 p.2) ++ ((List.finRange 8).map (.src .y) ++ ((allG.map fun p => .itl p.1 p.2) ++
    ((allG.map fun p => .out p.1 p.2) ++ ((List.finRange 8).map .qslot ++ ((List.finRange 8).map .lslot ++
      (List.finRange 4).map .oslot)))))
def initToks : List Res :=
  (List.finRange 3).map .tokB ++ ((allCh.map fun p => .tokR p.1 p.2) ++ ownToks.map fun p => .tok p.1 p.2)
def initPos : List Res := allCells.map fun a => .pos a 0
def initCred : List Res := .cred .bar :: allCh.map fun p => .cred (.recv p.1 p.2)
def initRes : List Res := initCred ++ (initPos ++ (initToks ++ initMem))

/-- What a device holds at the end: the result, the slots, and every semaphore at its last round. -/
def finalRes : List Res :=
  (allG.map fun p => .outD p.1 p.2) ++ ((List.finRange 8).map .qslot ++ ((List.finRange 8).map .lslot ++
    ((List.finRange 4).map .oslot ++ allCells.map fun a => .pos a a.rounds)))

end Cert.Exchange

end
-- ==== Proof.Values.lean ====
/-
What the copies and the additions leave. A channel leaves, in the receiver's window, what the receiver is
to hold there; an addition and a store leave a block of the result.
-/
module

public import proofs.«01_k».proof.Proof.Windows

@[expose] public section

noncomputable section

namespace Cert.Exchange

open Cert.Kernel Cert.Kernel.Gen
open Idealize.ShloMosaic Idealize.ShloMosaic.TcCoe
open Idealize.SL Idealize.SL.Sem
open Idealize.ShloMosaic.ValueIdx (ix2 ix3 eq_ix2 eq_ix3 reshapeEquiv_ix2_1ab)

variable {F : FTy → Type} [FloatOps F]
variable (m : (ℓ : Loc nD τ sig) → Buf (Elt F) ℓ)

/-- Writing through a view what it reads of other contents leaves those contents under the view. -/
theorem write_read_at {sp : Space} {s : Shape} {e : EltTy} (v : View sig .tc sp s e) (f g : v.ty.Contents (Elt F))
    {w : s.Idx → Elt F e} (hw : v.read (Elt F) g = w) {i : v.ty.Idx} (hi : i ∈ v.set) :
    v.write (Elt F) f w Finset.univ i = g i := by
  rw [← hw, View.write_read_eq_piecewise, View.setOn_univ, Finset.piecewise_eq_of_mem _ _ _ hi]

/-! ## The channels -/

/-- Two devices with the same index along the second axis are to receive the same. -/
theorem rFin_congr {c p : Dev nD} (h : yOf c = yOf p) (i : S16384x1024.Idx) : rFin m c i = rFin m p i := by
  have hs : srcDev c (i 0) = srcDev p (i 0) := Fin.ext (by simp only [srcDev, h])
  have hc : colOf c (i 1) = colOf p (i 1) := Fin.ext (by simp only [colOf, h])
  unfold rFin
  rw [hs, hc]

theorem yOf_target (ch : Ch) (k : Fin 8) (c : Dev nD) (h : ch ≠ .y) : yOf (target ch k c) = yOf c := by
  revert h; cases ch <;> revert k c <;> decide +kernel

/-- Two elements of arguments are the same if they are the same device's and have the same row and column. -/
theorem arg_congr {d d' : Dev nD} (h : d = d') {i i' : S1x16384x2048.Idx}
    (h1 : (i 1).val = (i' 1).val) (h2 : (i 2).val = (i' 2).val) :
    (xFin m d : S1x16384x2048.Idx → Elt F .f32) i = (xFin m d' : S1x16384x2048.Idx → Elt F .f32) i' := by
  subst h
  refine congrArg (xFin m d) (funext fun a => Fin.ext ?_)
  match a with
  | ⟨0, _⟩ =>
    have h0 : (i 0).val < 1 := (i 0).isLt
    have h0' : (i' 0).val < 1 := (i' 0).isLt
    show (i 0).val = (i' 0).val
    omega
  | ⟨1, _⟩ => exact h1
  | ⟨2, _⟩ => exact h2

theorem yOf_target_y (k : Fin 8) (c : Dev nD) : 1 - yOf (target .y k c) = yOf c ∧ yOf (target .y k c) = 1 - yOf c := by
  revert k c; decide +kernel

/-- The sender is the owner of the rows of its own group, seen from its neighbour. -/
theorem srcDev_target (c : Dev nD) (k : Fin 8) (row : Fin 16384) (h : row.val / 512 = blk c .me k) :
    srcDev (target .y k c) row = c := by
  have hc := dev_lt c; have hk := k.isLt
  apply Fin.ext
  simp only [srcDev, (yOf_target_y k c).1]
  simp only [blk] at h
  have h1 : row.val / 8192 = c.val / 4 := by omega
  have h2 : row.val / 4096 % 2 = c.val % 2 := by omega
  rw [h1, h2]
  simp only [yOf]; omega

/-- The channel between the two sides brings the sender's block to where the receiver is to hold it. -/
theorem landed_y (c : Dev nD) (k : Fin 8) (fd) (j : S512x1024.Idx) :
    (chDst .y c k).view.write (Elt F) fd ((chSrc .y c k).view.read (Elt F) (srcFn m .y c k)) Finset.univ
      ((chDst .y c k).view.emb j) = dstFn m .y c (target .y k c) k ((chDst .y c k).view.emb j) := by
  have hd := emb_winR (blk c .me k) (off1_eq c k) (k0_off1_inb c k) j
  have hs := emb_winX (blk c .me k) (1 - yOf c) (off2_eq c k) (k0_off2_inb c k) j
  have hj : (j 0).val < 512 := (j 0).isLt
  refine (View.write_emb_of_mem (v := (winR rM (k0_off1 c (kw k)) (k0_off1_inb c k)).view) fd _ (Finset.mem_univ j)).trans ?_
  show (xFin m c : S1x16384x2048.Idx → Elt F .f32) ((winX (k0_off2 c (kw k)) (k0_off2_inb c k)).view.emb j)
    = rFin m (target .y k c) ((winR rM (k0_off1 c (kw k)) (k0_off1_inb c k)).view.emb j)
  refine arg_congr m (srcDev_target c k _ ?_).symm ?_ ?_
  · rw [hd.1]; omega
  · exact hs.1.trans hd.1.symm
  · rw [hs.2]
    show _ = 1024 * yOf (target .y k c) + _
    rw [hd.2, (yOf_target_y k c).2]

/-- What a channel's copy leaves in its landing region is what the receiver is to hold there. -/
theorem landed (ch : Ch) (c : Dev nD) (k : Fin 8) (fd : Buf (Elt F) ((chDst ch c k).view.loc (target ch k c : Thread nD τ))) :
    ∀ i ∈ (chDst ch c k).view.set,
      (chDst ch c k).view.write (Elt F) fd ((chSrc ch c k).view.read (Elt F) (srcFn m ch c k)) Finset.univ i
        = dstFn m ch c (target ch k c) k i := by
  intro i hi
  cases ch with
  | y => obtain ⟨j, -, rfl⟩ := Finset.mem_map.mp hi; exact landed_y m c k fd j
  | _ =>
    refine (write_read_at _ fd (rFin m c) rfl hi).trans ?_
    exact rFin_congr m (yOf_target _ k c (by decide)).symm i

/-! ## The additions -/

/-- What is stored for an item is a block of the result. -/
theorem oVal_eq (c : Dev nD) (i : Fin 32) : (itO c i).view.read (Elt F) (outFin m c) = oVal m c i := by
  funext j
  have hl := emb_winX _ _ (lOff_eq c (item i).1 (item i).2) (lOff_inb (item i).1 c (item i).2) j
  have hq := emb_winR _ (gOff_eq c (item i).1 (item i).2) (gOff_inb (item i).1 c (item i).2) j
  show FloatOps.addf (lFin m c ((itQ c i).view.emb j)) (rFin m c ((itQ c i).view.emb j))
    = FloatOps.addf ((xFin m c : S1x16384x2048.Idx → Elt F .f32) ((itL c i).view.emb j)) (rFin m c ((itQ c i).view.emb j))
  refine congrArg (fun t => FloatOps.addf (φ := .f32) t _) ?_
  refine arg_congr m rfl (hq.1.trans hl.1.symm) ?_
  rw [hl.2]
  show 1024 * yOf c + _ = _
  rw [hq.2]

/-- Storing an item's sum through its slot leaves the sum in the slot. -/
theorem read_stored (c : Dev nD) (i : Fin 32) (fl : (lM.view).ty.Contents (Elt F)) (fq : (qM.view).ty.Contents (Elt F))
    (fb : (bM.view).ty.Contents (Elt F))
    (hl : (slot8 lM (m8 i)).view.read (Elt F) fl = lVal m c i) (hq : (slot8 qM (m8 i)).view.read (Elt F) fq = qVal m c i) :
    (slot4 bM (m4 i)).view.read (Elt F) ((bM.access (rect4 (m4 i))).write (Elt F) fb
      (sumBlock (lM.view.readAt (Elt F) (rect8 (m8 i)).toLoadRect fl) (qM.view.readAt (Elt F) (rect8 (m8 i)).toLoadRect fq))
      Finset.univ) = oVal m c i := by
  have e1 := Memref.read_squeeze_slice bM (rect4 (m4 i)) (fun _ => rfl) squeezes_S1x512x1024_S512x1024
    shapeCasts_S1x512x1024_S512x1024 ((bM.access (rect4 (m4 i))).write (Elt F) fb
      (sumBlock (lM.view.readAt (Elt F) (rect8 (m8 i)).toLoadRect fl) (qM.view.readAt (Elt F) (rect8 (m8 i)).toLoadRect fq))
      Finset.univ)
  rw [e1, View.readAt_rect]
  have e2 : (bM.view.slice (rect4 (m4 i))).read (Elt F) ((bM.access (rect4 (m4 i))).write (Elt F) fb
      (sumBlock (lM.view.readAt (Elt F) (rect8 (m8 i)).toLoadRect fl) (qM.view.readAt (Elt F) (rect8 (m8 i)).toLoadRect fq))
      Finset.univ) = sumBlock (lM.view.readAt (Elt F) (rect8 (m8 i)).toLoadRect fl) (qM.view.readAt (Elt F) (rect8 (m8 i)).toLoadRect fq) :=
    View.read_write_univ _ _
  rw [e2]
  unfold sumBlock
  refine (shapeCast_shapeCast (s := S512x1024) (t := S1x512x1024) _ _ _).trans ?_
  unfold oVal
  rw [← hl, ← hq]
  rfl

/-- Copying an item's slot to the result's window leaves a block of the result there. -/
theorem stored (c : Dev nD) (i : Fin 32) (fb : (bM.view).ty.Contents (Elt F)) (fo : (oM.view).ty.Contents (Elt F))
    (h : (slot4 bM (m4 i)).view.read (Elt F) fb = oVal m c i) :
    ∀ x ∈ (itO c i).view.set,
      (itO c i).view.write (Elt F) fo ((slot4 bM (m4 i)).view.read (Elt F) fb) Finset.univ x = outFin m c x :=
  fun x hx => write_read_at (itO c i).view fo (outFin m c) ((oVal_eq m c i).trans h.symm) hx

end Cert.Exchange

end
-- ==== Proof.Rules.lean ====
/-
Every command does what the bookkeeping says: from the resources that it takes, the program's effect is safe
and leaves the resources that it gives back. Hence every script that the bookkeeping runs.
-/
module

public import proofs.«01_k».proof.Proof.Net
public import proofs.«01_k».proof.Proof.Values

@[expose] public section

noncomputable section

namespace Cert.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Meanings -/

/-- What a resource of the bookkeeping is, on a device. -/
def interp (c : Dev nD) : Res → sProp 𝕄
  | .src ch k => srcP m c ch k
  | .land ch k => landP c ch k
  | .peer ch k => peerP c ch k
  | .half k => gotP m c .rz k
  | .itq g k => itqP m c g k
  | .itl g k => itlP m c g k
  | .out g k => outP c g k
  | .outD g k => outDP m c g k
  | .qslot n => qSlot c n
  | .lslot n => lSlot c n
  | .oslot n => oSlot c n
  | .qfull i => qFull m c i
  | .lfull i => lFull m c i
  | .ofull i => oFull m c i
  | .tokB n => dutyTok ER (gcell (barTarget n c) .bar) 0 n
  | .tokR ch k => dutyTok ER (gcell (target ch k c) (.recv ch k)) 0 (0 : Fin 3)
  | .tok a r => dutyTok ER (gcell c a) r (0 : Fin 3)
  | .cred a => cred (tallyAt (gcell c a) () a.total)
  | .pos a r => iprop(atPos ER (gcell c a) r ∅ 0 ∗ reached ER (gcell c a) r)

/-- The cell of a device's semaphore. -/
abbrev kcell (x : Dev nD × SemLoc sig) : GSem nD τ sig := ((x.1 : Thread nD τ), x.2)

/-- What every device knows throughout: the invariants of all cells, that all have begun, and the order. -/
def ctx (K : Dev nD × SemLoc sig → ℕ) : sProp 𝕄 :=
  iprop((bigSep Finset.univ fun x : Dev nD × SemLoc sig => cellInv ER (sched m) (K x) (kcell x))
    ∗ (bigSep Finset.univ fun x : Dev nD × SemLoc sig => reached ER (kcell x) 0) ∗ levAts L lv)

instance ctx_persistent (K : Dev nD × SemLoc sig → ℕ) : BI.Persistent (ctx m K) := by unfold ctx; infer_instance

theorem ctx_inv (K : Dev nD × SemLoc sig → ℕ) (c : Dev nD) (a : Cell) :
    ctx m K ⊢ cellInv ER (sched m) (K (c, a.sem)) (gcell c a) := by
  unfold ctx
  exact (sep_elim_left (PROP := sProp 𝕄)).trans (bigSep_elim (Finset.mem_univ (c, a.sem)))
theorem ctx_reached (K : Dev nD × SemLoc sig → ℕ) (c : Dev nD) (a : Cell) :
    ctx m K ⊢ (reached ER (gcell c a) 0 : sProp 𝕄) := by
  unfold ctx
  exact ((sep_elim_right (PROP := sProp 𝕄)).trans (sep_elim_left (PROP := sProp 𝕄))).trans (bigSep_elim (Finset.mem_univ (c, a.sem)))
theorem ctx_lev (K : Dev nD × SemLoc sig → ℕ) : ctx m K ⊢ (levAts L lv : sProp 𝕄) := by
  unfold ctx
  exact (sep_elim_right (PROP := sProp 𝕄)).trans (sep_elim_right (PROP := sProp 𝕄))

/-! ## What a device owes -/

/-- What a command pays of it. -/
def paid (c : Dev nD) : Cmd → CellTallies nD τ sig Unit
  | .sig n => tallyAt (gcell (barTarget n c) .bar) () 1
  | .start ch k => tallyAt (gcell (target ch k c) (.recv ch k)) () (chN ch)
  | _ => 0
/-- What is owed before a script. -/
def tally (c : Dev nD) : List Cmd → CellTallies nD τ sig Unit
  | [] => 0
  | cmd :: cs => tally c cs + paid c cmd

theorem tallyAt_pos {g : GSem nD τ sig} {k : ℕ} {g' : GSem nD τ sig} {u : Unit}
    (h : 0 < tallyAt (Ix := Unit) g () k g' u) : g' = g := by
  rw [tallyAt_apply] at h
  by_contra hn
  rw [if_neg fun h' => hn h'.1] at h
  exact Nat.lt_irrefl 0 h

/-- Everything owed stands where the script says. -/
theorem tally_above {c : Dev nD} {n : ℕ} : ∀ {cs : List Cmd}, cs.all (Cmd.above n) = true →
    ∀ {g : GSem nD τ sig} {u : Unit}, 0 < tally c cs g u → u ∈ L g ∧ n < lv g u
  | [], _, g, u, h => absurd h (Nat.lt_irrefl 0)
  | cmd :: cs, hb, g, u, h => by
    rw [List.all_cons, Bool.and_eq_true] at hb
    rw [tally, Pi.add_apply, Finsupp.add_apply] at h
    by_cases h0 : 0 < tally c cs g u
    · exact tally_above hb.2 h0
    · have h1 : 0 < paid c cmd g u := by omega
      have h2 := hb.1
      cases cmd with
      | sig d =>
        have hg := tallyAt_pos h1
        subst hg
        refine ⟨by rw [L_tc]; exact Finset.mem_singleton_self _, ?_⟩
        unfold lv; rw [role_sem]; exact of_decide_eq_true h2
      | start ch k =>
        have hg := tallyAt_pos h1
        subst hg
        refine ⟨by rw [L_tc]; exact Finset.mem_singleton_self _, ?_⟩
        unfold lv; rw [role_sem]; exact of_decide_eq_true h2
      | _ => exact absurd h1 (Nat.lt_irrefl 0)

theorem may_wait (c : Dev nD) (a : Cell) {cs : List Cmd} (h : cs.all (Cmd.above a.level) = true) :
    (levAts L lv : sProp 𝕄) ⊢ MayWait (c : Thread nD τ) a.sem () (tally c cs) :=
  MayOwe.of_cut (L := L) (lev := lv) a.level
    (fun p hp => by rw [Finset.mem_singleton.mp hp, L_tc]; exact Finset.mem_singleton_self _)
    (fun g u hg => (tally_above h hg).1)
    (fun p hp => by rw [Finset.mem_singleton.mp hp]; unfold lv; rw [role_sem])
    (fun g u hg => (tally_above h hg).2)

/-! ## Commands -/

/-- A device's program, run to a postcondition. -/
abbrev wpB (c : Dev nD) (p : BodyProg F) (Q : PUnit → sProp 𝕄) : sProp 𝕄 :=
  wp frame (wpE (defs₀ (F := F)) Variants.none (c : Thread nD τ) none) Set.univ p Q

/-- What is owed, whatever has been waited for. -/
abbrev debt (c : Dev nD) (O : CellTallies nD τ sig Unit) : sProp 𝕄 := iprop(∃ W, owes (c : Thread nD τ) O W)

/-- A command before the commands `cs` does what the bookkeeping says. -/
def Sound (K : Dev nD × SemLoc sig → ℕ) (c : Dev nD) (cs : List Cmd) (cmd : Cmd) : Prop :=
  ∀ (p : BodyProg F) (Q : PUnit → sProp 𝕄),
    iprop(ctx m K ∗ sepL (interp m c) cmd.pre ∗ debt c (tally c (cmd :: cs)))
      ⊢ iprop(((sepL (interp m c) cmd.post ∗ debt c (tally c cs)) -∗ wpB c p Q) -∗ wpB c (denote c cmd p) Q)

theorem rest_one (c : Dev nD) (a : Cell) {r : ℕ} (h : r < a.rounds) (ha : a.payers = {0}) :
    bigSep ((sched m).duties (gcell c a) r \ ∅) (fun d => (sched m).payload (gcell c a) r d) = pay m c a r 0 := by
  rw [duties_cell m c a h, ha, Finset.sdiff_empty, bigSep_singleton, payload_cell]

theorem rest_bar (c : Dev nD) :
    bigSep ((sched m).duties (gcell c .bar) 0 \ ∅) (fun d => (sched m).payload (gcell c .bar) 0 d)
      = iprop(pay m c .bar 0 0 ∗ pay m c .bar 0 1 ∗ pay m c .bar 0 2) := by
  rw [duties_cell m c .bar Nat.one_pos, Finset.sdiff_empty]
  show bigSep Finset.univ _ = _
  rw [bigSep_univ_eq_bigSepL [0, 1, 2] (by decide) (by decide)]
  simp only [payload_cell]
  rfl

/-- A wait on an own semaphore for a whole round. -/
theorem wait_round (K : Dev nD × SemLoc sig → ℕ) (c : Dev nD) (a : Cell) {r : ℕ} (h : r < a.rounds) {cs : List Cmd}
    (hl : cs.all (Cmd.above a.level) = true) {w : TpuEff nD τ sig (Elt F) Λ₀ .tc PUnit} {n : ℕ} (hn : n = a.total)
    (hw : ∀ Kt : PUnit → sProp 𝕄, wpE (defs₀ (F := F)) Variants.none (c : Thread nD τ) none Set.univ w Kt
      = waitSpec (c : Thread nD τ) Set.univ a.sem n Kt) (p : BodyProg F) (Q : PUnit → sProp 𝕄) :
    iprop(ctx m K ∗ interp m c (.cred a) ∗ interp m c (.pos a r) ∗ debt c (tally c cs))
      ⊢ iprop(((interp m c (.pos a (r + 1))
            ∗ bigSep ((sched m).duties (gcell c a) r \ ∅) (fun d => (sched m).payload (gcell c a) r d)
            ∗ debt c (tally c cs)) -∗ wpB c p Q) -∗ wpB c (.op w fun _ => p) Q) := by
  subst hn
  unfold interp
  iintro ⟨#Hc, Hcr, ⟨Hat, -⟩, ⟨%W, HO⟩⟩ Hk
  iapply (Rounds.wp_wait_rest_token Variants.none ER (sched m) (c : Thread nD τ) none (κ := K (c, a.sem))
      hw (Set.mem_univ _) () (O := tally c cs) (W := W) (R := r) (m := 0) (T := ∅)
      (by rw [Nat.zero_add]; exact (expect_cell m c a h).symm)) $$ [Hcr HO Hat]
  · isplitr; · iapply (ctx_inv m K c a); iexact Hc
    isplitl [Hcr]; · iexact Hcr
    isplitl [HO]; · iexact HO
    isplitr; · iapply (may_wait c a hl); iapply (ctx_lev m K); iexact Hc
    iexact Hat
  iintro ⟨HO, Hat, Hr, Hp⟩
  iapply Hk
  isplitl [Hat Hr]
  · isplitl [Hat] <;> iassumption
  isplitl [Hp]; · iexact Hp
  iexists _; iexact HO

theorem tally_id (c : Dev nD) (cmd : Cmd) (cs : List Cmd) (h : paid c cmd = 0) : tally c (cmd :: cs) = tally c cs := by
  rw [tally, h, add_zero]

theorem sepL_nil {ι : Type} (Φ : ι → sProp 𝕄) : iprop(emp) ⊢ sepL Φ [] := Entails.refl _
theorem sepL_cons {ι : Type} (Φ : ι → sProp 𝕄) (a : ι) (l : List ι) : iprop(Φ a ∗ sepL Φ l) ⊢ sepL Φ (a :: l) := Entails.refl _
theorem sepL_one {ι : Type} (Φ : ι → sProp 𝕄) (a : ι) : Φ a ⊢ sepL Φ [a] := by
  iintro H; iapply (sepL_cons Φ a []); isplitl [H]; · iexact H
  iapply (sepL_nil Φ); iempintro

theorem sepL_mono_mem {ι : Type} {Φ Ψ : ι → sProp 𝕄} : ∀ {l : List ι}, (∀ a ∈ l, Φ a ⊢ Ψ a) → sepL Φ l ⊢ sepL Ψ l
  | [], _ => Entails.refl _
  | a :: l, h => by
    show iprop(Φ a ∗ sepL Φ l) ⊢ iprop(Ψ a ∗ sepL Ψ l)
    exact BIClass.sep_mono (h a List.mem_cons_self) (sepL_mono_mem fun b hb => h b (List.mem_cons_of_mem _ hb))

/-- An own landing region is the region that its sender writes. -/
theorem land_peer (c : Dev nD) (n : Fin 3) (p : Ch × Fin 8) (h : p ∈ toward n) :
    (landP c p.1 p.2 : sProp 𝕄) ⊢ peerP (barTarget n c) p.1 p.2 := by
  have e : barTarget n c = target p.1 p.2 c := by rw [target_eq, dirOf_of_mem_toward h]
  rw [e]
  unfold landP peerP
  rw [target_target]

theorem sound_sig (K c cs) (n : Fin 3) : Sound m K c cs (.sig n) := by
  intro p Q
  show iprop(ctx m K ∗ (interp m c (.tokB n) ∗ sepL (interp m c) ((toward n).map fun p => Res.land p.1 p.2)) ∗ debt c (tally c (.sig n :: cs))) ⊢ _
  rw [sepL_map]
  simp only [denote, semSignalWord, Prog.lift, Prog.bind_op, Prog.bind_ret, Prog.pure_eq_ret]
  unfold interp
  iintro ⟨#Hc, ⟨Ht, Hl⟩, ⟨%W, HO⟩⟩ Hk
  iapply (Rounds.wp_signal Variants.none ER (sched m) (c : Thread nD τ) none (dst := (barTarget n c : Thread nD τ))
      (κ := K (barTarget n c, Cell.bar.sem)) (r := 0) (d := n) (by
        show n ∈ (sched m).duties (gcell (barTarget n c) .bar) 0
        rw [duties_cell m _ .bar Nat.one_pos]; exact Finset.mem_univ _)
      ((amount_cell m (barTarget n c) .bar 0 n).trans (by decide)) () (tally c cs) rfl) $$ [HO Ht Hl]
  · isplitr; · iapply (ctx_inv m K (barTarget n c) .bar); iexact Hc
    isplitl [HO]; · iexact HO
    isplitl [Ht]; · iexact Ht
    isplitl [Hl]
    · iapply (show sepL (fun p : Ch × Fin 8 => landP c p.1 p.2) (toward n)
          ⊢ (sched m).payload ((barTarget n c : Thread nD τ), SemLoc.reg barS) 0 n from
        (sepL_mono_mem (land_peer (F := F) c n)).trans (Entails.of_eq (payload_cell m (barTarget n c) .bar 0 n).symm))
      iexact Hl
    · iapply (ctx_reached m K (barTarget n c) .bar); iexact Hc
  iintro HO
  iapply Hk
  isplitr; · iapply (sepL_nil (interp m c)); iempintro
  iexists _; iexact HO

theorem sepL_three {ι : Type} (Φ : ι → sProp 𝕄) (a b l : List ι) :
    iprop(sepL Φ a ∗ sepL Φ b ∗ sepL Φ l) ⊢ sepL Φ (a ++ (b ++ l)) := by
  iintro ⟨H, H1, H2⟩
  iapply (sepL_append Φ a (b ++ l)).2
  isplitl [H]; · iexact H
  iapply (sepL_append Φ b l).2
  isplitl [H1] <;> iassumption

/-- What the three neighbours hand over is every region that the device will write. -/
theorem bar_peers (c : Dev nD) :
    iprop(interp m c (.pos .bar 1) ∗ pay m c .bar 0 0 ∗ pay m c .bar 0 1 ∗ pay m c .bar 0 2)
      ⊢ sepL (interp m c) (Cmd.post .bar) := by
  have h : iprop(pay m c .bar 0 0 ∗ pay m c .bar 0 1 ∗ pay m c .bar 0 2)
      ⊢ sepL (interp m c) (allCh.map fun p => Res.peer p.1 p.2) := by
    rw [sepL_map]
    exact sepL_three (fun p : Ch × Fin 8 => interp m c (.peer p.1 p.2)) (toward 0) (toward 1) (toward 2)
  iintro ⟨H, H'⟩
  iapply (sepL_cons (interp m c) (.pos .bar 1) (allCh.map fun p => Res.peer p.1 p.2))
  isplitl [H]; · iexact H
  iapply h; iexact H'

theorem sound_bar (K c cs) (hl : mayRun .bar cs = true) : Sound m K c cs .bar := by
  intro p Q
  rw [tally_id c .bar cs rfl]
  show iprop(ctx m K ∗ (interp m c (.cred .bar) ∗ interp m c (.pos .bar 0) ∗ emp) ∗ debt c (tally c cs)) ⊢ _
  simp only [denote, semWaitWord, Prog.lift, Prog.bind_op, Prog.bind_ret, Prog.pure_eq_ret]
  iintro ⟨#Hc, ⟨Hcr, Hp, -⟩, HO⟩ Hk
  iapply (wait_round m K c .bar (r := 0) Nat.one_pos hl (n := (3#32 : BitVec 32).toNat) (by decide)
    (wpE_semWait_eq Variants.none (c : Thread nD τ) none Set.univ)) $$ [Hcr Hp HO]
  · isplitr; · iexact Hc
    isplitl [Hcr]; · iexact Hcr
    isplitl [Hp]; · iexact Hp
    iexact HO
  iintro ⟨Hp, Hb, HO⟩
  ihave Hb := (Entails.of_eq (rest_bar m c)) $$ Hb
  icases Hb with ⟨H0, H1, H2⟩
  iapply Hk
  isplitr [HO]
  · iapply (bar_peers m c)
    isplitl [Hp]; · iexact Hp
    isplitl [H0]; · iexact H0
    isplitl [H1]; · iexact H1
    iexact H2
  iexact HO

/-- A channel's copy, over any windows of the channel's shape. -/
theorem sound_start (K c cs) (ch : Ch) (k : Fin 8) : Sound m K c cs (.start ch k) := by
  intro p Q
  show iprop(ctx m K ∗ (srcP m c ch k ∗ peerP c ch k ∗ dutyTok ER (gcell c (.send ch k)) 0 0
    ∗ (atPos ER (gcell c (.send ch k)) 0 ∅ 0 ∗ reached ER (gcell c (.send ch k)) 0)
    ∗ dutyTok ER (gcell (target ch k c) (.recv ch k)) 0 0 ∗ emp) ∗ debt c (tally c (.start ch k :: cs))) ⊢ _
  unfold srcP peerP
  iintro ⟨#Hc, ⟨Hs, ⟨%fd, Hd⟩, Ht, ⟨Hat, #Hr⟩, Ht', -⟩, ⟨%W, HO⟩⟩ Hk
  iapply (Rounds.wp_send_pointsTo Variants.none ER (sched m) (c : Thread nD τ) none
      (κ₁ := K (c, Cell.sem (.send ch k))) (κ₂ := K (target ch k c, Cell.sem (.recv ch k)))
      (r₁ := 0) (r₂ := 0) (d₁ := 0) (d₂ := 0) (q := chQ ch) (fs := srcFn m ch c k) (fd := fd)
      (by
        show (0 : Fin 3) ∈ (sched m).duties (gcell c (.send ch k)) 0
        rw [duties_cell m _ (.send ch k) Nat.one_pos]; exact Finset.mem_singleton_self _)
      (by
        show (0 : Fin 3) ∈ (sched m).duties (gcell (target ch k c) (.recv ch k)) 0
        rw [duties_cell m _ (.recv ch k) Nat.one_pos]; exact Finset.mem_singleton_self _)
      () () (chN ch)
      ((show (chDst ch c k).view.amount (Cell.sem (.recv ch k)) = (chDst ch c k).view.dmaCredit from rfl).trans (credit_chDst ch c k))
      (amount_cell m c (.send ch k) 0 0) (amount_cell m (target ch k c) (.recv ch k) 0 0)
      (tally c cs) rfl (W := W)
      (by
        refine BIBase.Entails.trans ?_ (Entails.of_eq (payload_cell m c (.send ch k) 0 0).symm)
        show _ ⊢ iprop(emp)
        iintro -; iempintro)
      (by
        refine BIBase.Entails.trans ?_ (Entails.of_eq (payload_cell m (target ch k c) (.recv ch k) 0 0).symm)
        show _ ⊢ gotP m (target ch k c) ch k
        unfold gotP
        rw [target_target]
        exact Entails.of_eq (pointsTo_congr (landed m ch c k fd)))) $$ [Hs Hd HO Ht Ht']
  · isplitr; · iapply (ctx_inv m K c (.send ch k)); iexact Hc
    isplitr; · iapply (ctx_inv m K (target ch k c) (.recv ch k)); iexact Hc
    isplitl [Hs]; · iexact Hs
    isplitl [Hd]; · iexact Hd
    isplitl [HO]; · iexact HO
    isplitl [Ht]; · iexact Ht
    isplitr; · iexact Hr
    isplitl [Ht']; · iexact Ht'
    iapply (ctx_reached m K (target ch k c) (.recv ch k)); iexact Hc
  iintro ⟨Hcr, HO⟩
  iapply Hk
  isplitr [HO]
  · iapply (show iprop(cred (tallyAt (gcell c (.send ch k)) () (chN ch))
        ∗ (atPos ER (gcell c (.send ch k)) 0 ∅ 0 ∗ reached ER (gcell c (.send ch k)) 0) ∗ emp)
      ⊢ sepL (interp m c) (Cmd.start ch k).post from Entails.refl _)
    isplitl [Hcr]; · iexact Hcr
    isplitl [Hat]
    · isplitl [Hat]; · iexact Hat
      iexact Hr
    iempintro
  iexists _; iexact HO

/-- What a landing brings is what the bookkeeping hands on. -/
theorem arrive (c : Dev nD) (ch : Ch) (k : Fin 8) :
    iprop(gotP m c ch k ∗ sepL (interp m c) ((Cmd.recv ch k).pre.drop 2)) ⊢ sepL (interp m c) (arrives ch k) := by
  cases ch with
  | y =>
    show iprop(gotP m c .y k ∗ emp) ⊢ iprop(srcP m c .x k ∗ srcP m c .z k ∗ itqP m c .me k ∗ emp)
    iintro ⟨H, -⟩
    ihave H := (got_y m c k) $$ H
    icases H with ⟨H1, H2, H3⟩
    isplitl [H1]; · iexact H1
    isplitl [H2]; · iexact H2
    isplitl [H3]; · iexact H3
    iempintro
  | x =>
    show iprop(gotP m c .x k ∗ emp) ⊢ iprop(srcP m c .rz k ∗ itqP m c .x k ∗ emp)
    iintro ⟨H, -⟩
    ihave H := (got_x m c k) $$ H
    icases H with ⟨H1, H2⟩
    isplitl [H1]; · iexact H1
    isplitl [H2]; · iexact H2
    iempintro
  | z =>
    show iprop(gotP m c .z k ∗ emp) ⊢ iprop(srcP m c .rx k ∗ itqP m c .z k ∗ emp)
    iintro ⟨H, -⟩
    ihave H := (got_z m c k) $$ H
    icases H with ⟨H1, H2⟩
    isplitl [H1]; · iexact H1
    isplitl [H2]; · iexact H2
    iempintro
  | rz => exact Entails.refl _
  | rx =>
    show iprop(gotP m c .rx k ∗ gotP m c .rz k ∗ emp) ⊢ iprop(itqP m c .d k ∗ emp)
    iintro ⟨H, H', -⟩
    isplitl [H H']
    · iapply (got_d m c k); isplitl [H'] <;> iassumption
    iempintro

theorem sound_recv (K c cs) (ch : Ch) (k : Fin 8) (hl : mayRun (.recv ch k) cs = true) : Sound m K c cs (.recv ch k) := by
  intro p Q
  rw [tally_id c (.recv ch k) cs rfl]
  have hpre : sepL (interp m c) (Cmd.recv ch k).pre
      = iprop(interp m c (.cred (.recv ch k)) ∗ interp m c (.pos (.recv ch k) 0)
          ∗ sepL (interp m c) ((Cmd.recv ch k).pre.drop 2)) := by cases ch <;> rfl
  rw [hpre]
  iintro ⟨#Hc, ⟨Hcr, Hp, Hx⟩, HO⟩ Hk
  iapply (wait_round m K c (.recv ch k) (r := 0) Nat.one_pos hl (credit_chDst ch c k)
    (wpE_waitDma2_eq Variants.none (c : Thread nD τ) none Set.univ)) $$ [Hcr Hp HO]
  · isplitr; · iexact Hc
    isplitl [Hcr]; · iexact Hcr
    isplitl [Hp]; · iexact Hp
    iexact HO
  iintro ⟨Hp, Hb, HO⟩
  ihave Hb := (Entails.of_eq ((rest_one m c (.recv ch k) Nat.one_pos rfl).trans (show _ = gotP m c ch k from rfl))) $$ Hb
  iapply Hk
  isplitr [HO]
  · iapply (sepL_cons (interp m c) (.pos (.recv ch k) 1) (arrives ch k))
    isplitl [Hp]; · iexact Hp
    iapply (arrive m c ch k)
    isplitl [Hb]; · iexact Hb
    iexact Hx
  iexact HO

theorem sound_sent (K c cs) (ch : Ch) (k : Fin 8) (hl : mayRun (.sent ch k) cs = true) : Sound m K c cs (.sent ch k) := by
  intro p Q
  rw [tally_id c (.sent ch k) cs rfl]
  show iprop(ctx m K ∗ (interp m c (.cred (.send ch k)) ∗ interp m c (.pos (.send ch k) 0) ∗ emp) ∗ debt c (tally c cs)) ⊢ _
  iintro ⟨#Hc, ⟨Hcr, Hp, -⟩, HO⟩ Hk
  iapply (wait_round m K c (.send ch k) (r := 0) Nat.one_pos hl (credit_chSrc ch c k)
    (wpE_waitDma2_eq Variants.none (c : Thread nD τ) none Set.univ)) $$ [Hcr Hp HO]
  · isplitr; · iexact Hc
    isplitl [Hcr]; · iexact Hcr
    isplitl [Hp]; · iexact Hp
    iexact HO
  iintro ⟨Hp, -, HO⟩
  iapply Hk
  isplitr [HO]
  · iapply (sepL_one (interp m c) (.pos (.send ch k) 1)); iexact Hp
  iexact HO

end Cert.Exchange

end
-- ==== Proof.Local.lean ====
/-
The commands within a device, and whole scripts.
-/
module

public import proofs.«01_k».proof.Proof.Rules

@[expose] public section

noncomputable section

namespace Cert.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## What the own copies hand over, item by item -/

theorem pay_q (c : Dev nD) (i : Fin 32) : pay m c (.q (m8 i)) (i.val / 8) 0 = qFull m c i := by
  have e : 8 * (i.val / 8) + (m8 i).val = i.val := Nat.div_add_mod i.val 8
  have h : 8 * (i.val / 8) + (m8 i).val < 32 := lt_of_eq_of_lt e i.isLt
  exact (dif_pos h).trans (congrArg (qFull m c) (Fin.ext e))
theorem pay_l (c : Dev nD) (i : Fin 32) : pay m c (.l (m8 i)) (i.val / 8) 0 = lFull m c i := by
  have e : 8 * (i.val / 8) + (m8 i).val = i.val := Nat.div_add_mod i.val 8
  have h : 8 * (i.val / 8) + (m8 i).val < 32 := lt_of_eq_of_lt e i.isLt
  exact (dif_pos h).trans (congrArg (lFull m c) (Fin.ext e))
theorem pay_o (c : Dev nD) (i : Fin 32) :
    pay m c (.o (m4 i)) (i.val / 4) 0 = iprop(oSlot c (m4 i) ∗ outDP m c (item i).1 (item i).2) := by
  have e : 4 * (i.val / 4) + (m4 i).val = i.val := Nat.div_add_mod i.val 4
  have h : 4 * (i.val / 4) + (m4 i).val < 32 := lt_of_eq_of_lt e i.isLt
  exact (dif_pos h).trans
    (congrArg (fun j => iprop(oSlot c (m4 i) ∗ outDP m c (item j).1 (item j).2)) (Fin.ext (a := ⟨_, h⟩) (b := i) e))

theorem round8 (i : Fin 32) : i.val / 8 < 4 := by omega
theorem round4 (i : Fin 32) : i.val / 4 < 8 := by omega

/-- An own copy raises an own semaphore in its round. -/
theorem copy_round (K : Dev nD × SemLoc sig → ℕ) (c : Dev nD) (a : Cell) {r : ℕ} (h : r < a.rounds) (ha : a.payers = {0})
    (ht : a.total = blkN) (hu : a.unit = blkN)
    {sp sp' : Space} {src : Memref sig .tc sp S512x1024 .f32} {dst : Memref sig .tc sp' S512x1024 .f32}
    {sem : SemLoc sig} (hsem : sem = a.sem) (hN : dst.view.amount sem = blkN)
    {h1 : src.view.WordExact} {h2 : dst.view.WordExact}
    {h3 : DmaTarget.Typed (nD := nD) (τ := τ) (p := .tc) sp sem (.here dst)} (q : PosShare TreeShare)
    (fs : Buf (Elt F) (src.view.loc (c : Thread nD τ))) (fd : Buf (Elt F) (dst.view.loc (c : Thread nD τ)))
    (hpay : iprop(pts c dst fullShare (dst.view.write (Elt F) fd (src.view.read (Elt F) fs) Finset.univ) ∗ pts c src q fs)
      ⊢ pay m c a r 0) (p : BodyProg F) (Q : PUnit → sProp 𝕄) :
    iprop(ctx m K ∗ pts c src q fs ∗ pts c dst fullShare fd ∗ interp m c (.tok a r) ∗ interp m c (.pos a r))
      ⊢ iprop(((interp m c (.cred a) ∗ interp m c (.pos a r)) -∗ wpB c p Q)
          -∗ wpB c (.op (.enqueueDma src (.here dst) sem h1 h2 h3) fun _ => p) Q) := by
  subst hsem
  unfold interp
  iintro ⟨#Hc, Hs, Hd, Ht, ⟨Hat, #Hr⟩⟩ Hk
  iapply (Rounds.wp_copy_pointsTo Variants.none ER (sched m) (c : Thread nD τ) none (κ := K (c, a.sem)) (r := r) (d := 0)
      (q := q) (fs := fs) (fd := fd)
      (by
        show (0 : Fin 3) ∈ (sched m).duties (gcell c a) r
        rw [duties_cell m c a h, ha]; exact Finset.mem_singleton_self _)
      () blkN hN ((amount_cell m c a r 0).trans hu)
      (BIBase.Entails.trans hpay (Entails.of_eq (payload_cell m c a r 0).symm))) $$ [Hs Hd Ht]
  · isplitr; · iapply (ctx_inv m K c a); iexact Hc
    isplitl [Hs]; · iexact Hs
    isplitl [Hd]; · iexact Hd
    isplitl [Ht]; · iexact Ht
    iexact Hr
  have hcr : (cred (tallyAt (gcell c a) () blkN) : sProp 𝕄) ⊢ cred (tallyAt (gcell c a) () a.total) := by
    rw [ht]
  iintro Hcr
  ihave Hcr := hcr $$ Hcr
  iapply Hk
  isplitl [Hcr]; · iexact Hcr
  isplitl [Hat]; · iexact Hat
  iexact Hr

theorem sound_fetchQ (K c cs) (i : Fin 32) : Sound m K c cs (.fetchQ i) := by
  intro p Q
  rw [tally_id c (.fetchQ i) cs rfl]
  show iprop(ctx m K ∗ (itqP m c (item i).1 (item i).2 ∗ qSlot c (m8 i) ∗ interp m c (.tok (.q (m8 i)) (i.val / 8))
    ∗ interp m c (.pos (.q (m8 i)) (i.val / 8)) ∗ emp) ∗ debt c (tally c cs)) ⊢ _
  unfold itqP qSlot
  iintro ⟨#Hc, ⟨Hs, ⟨%fd, Hd⟩, Ht, Hp, -⟩, HO⟩ Hk
  iapply (copy_round m K c (.q (m8 i)) (r := i.val / 8) (round8 i) rfl rfl rfl rfl
    (src := itQ c i) (dst := slot8 qM (m8 i)) rfl (itShare (item i).1) (rFin m c) fd (by
      rw [pay_q]
      unfold qFull
      iintro ⟨H, -⟩
      iexists ((slot8 qM (m8 i)).view.write (Elt F) fd ((itQ c i).view.read (Elt F) (rFin m c)) Finset.univ)
      isplitr; · ipureintro; exact View.read_write_univ _ _
      iexact H)) $$ [Hs Hd Ht Hp]
  · isplitr; · iexact Hc
    isplitl [Hs]; · iexact Hs
    isplitl [Hd]; · iexact Hd
    isplitl [Ht]; · iexact Ht
    iexact Hp
  iintro ⟨Hcr, Hp⟩
  iapply Hk
  isplitr [HO]
  · iapply (sepL_cons (interp m c) (.cred (.q (m8 i))) [.pos (.q (m8 i)) (i.val / 8)])
    isplitl [Hcr]; · iexact Hcr
    iapply (sepL_one (interp m c) (.pos (.q (m8 i)) (i.val / 8))); iexact Hp
  iexact HO

theorem sound_fetchL (K c cs) (i : Fin 32) : Sound m K c cs (.fetchL i) := by
  intro p Q
  rw [tally_id c (.fetchL i) cs rfl]
  show iprop(ctx m K ∗ (itlP m c (item i).1 (item i).2 ∗ lSlot c (m8 i) ∗ interp m c (.tok (.l (m8 i)) (i.val / 8))
    ∗ interp m c (.pos (.l (m8 i)) (i.val / 8)) ∗ emp) ∗ debt c (tally c cs)) ⊢ _
  unfold itlP lSlot
  iintro ⟨#Hc, ⟨Hs, ⟨%fd, Hd⟩, Ht, Hp, -⟩, HO⟩ Hk
  iapply (copy_round m K c (.l (m8 i)) (r := i.val / 8) (round8 i) rfl rfl rfl rfl
    (src := itL c i) (dst := slot8 lM (m8 i)) rfl fullShare.right (xFin m c) fd (by
      rw [pay_l]
      unfold lFull
      iintro ⟨H, -⟩
      iexists ((slot8 lM (m8 i)).view.write (Elt F) fd ((itL c i).view.read (Elt F) (xFin m c)) Finset.univ)
      isplitr; · ipureintro; exact View.read_write_univ _ _
      iexact H)) $$ [Hs Hd Ht Hp]
  · isplitr; · iexact Hc
    isplitl [Hs]; · iexact Hs
    isplitl [Hd]; · iexact Hd
    isplitl [Ht]; · iexact Ht
    iexact Hp
  iintro ⟨Hcr, Hp⟩
  iapply Hk
  isplitr [HO]
  · iapply (sepL_cons (interp m c) (.cred (.l (m8 i))) [.pos (.l (m8 i)) (i.val / 8)])
    isplitl [Hcr]; · iexact Hcr
    iapply (sepL_one (interp m c) (.pos (.l (m8 i)) (i.val / 8))); iexact Hp
  iexact HO

theorem sound_put (K c cs) (i : Fin 32) : Sound m K c cs (.put i) := by
  intro p Q
  rw [tally_id c (.put i) cs rfl]
  show iprop(ctx m K ∗ (oFull m c i ∗ outP c (item i).1 (item i).2 ∗ interp m c (.tok (.o (m4 i)) (i.val / 4))
    ∗ interp m c (.pos (.o (m4 i)) (i.val / 4)) ∗ emp) ∗ debt c (tally c cs)) ⊢ _
  unfold oFull outP
  iintro ⟨#Hc, ⟨⟨%fb, %hb, Hs⟩, ⟨%fd, Hd⟩, Ht, Hp, -⟩, HO⟩ Hk
  iapply (copy_round m K c (.o (m4 i)) (r := i.val / 4) (round4 i) rfl rfl rfl rfl
    (src := slot4 bM (m4 i)) (dst := itO c i) rfl fullShare fb fd (by
      rw [pay_o]
      unfold oSlot outDP
      iintro ⟨H, H'⟩
      isplitl [H']; · iexists fb; iexact H'
      iapply (Entails.of_eq (pointsTo_congr (stored m c i fb fd hb)))
      iexact H)) $$ [Hs Hd Ht Hp]
  · isplitr; · iexact Hc
    isplitl [Hs]; · iexact Hs
    isplitl [Hd]; · iexact Hd
    isplitl [Ht]; · iexact Ht
    iexact Hp
  iintro ⟨Hcr, Hp⟩
  iapply Hk
  isplitr [HO]
  · iapply (sepL_cons (interp m c) (.cred (.o (m4 i))) [.pos (.o (m4 i)) (i.val / 4)])
    isplitl [Hcr]; · iexact Hcr
    iapply (sepL_one (interp m c) (.pos (.o (m4 i)) (i.val / 4))); iexact Hp
  iexact HO

/-- A wait for an own copy, and what comes with it. -/
theorem sound_own (K : Dev nD × SemLoc sig → ℕ) (c : Dev nD) (cs : List Cmd) (cmd : Cmd) (a : Cell) (r : ℕ) (rs : List Res)
    (h : r < a.rounds) (ha : a.payers = {0}) (hl : cs.all (Cmd.above a.level) = true) (hz : paid c cmd = 0)
    {w : TpuEff nD τ sig (Elt F) Λ₀ .tc PUnit} {n : ℕ} (hn : n = a.total)
    (hw : ∀ Kt : PUnit → sProp 𝕄, wpE (defs₀ (F := F)) Variants.none (c : Thread nD τ) none Set.univ w Kt
      = waitSpec (c : Thread nD τ) Set.univ a.sem n Kt)
    (hd : ∀ p : BodyProg F, denote c cmd p = .op w fun _ => p)
    (hpre : cmd.pre = [.cred a, .pos a r]) (hpost : cmd.post = .pos a (r + 1) :: rs)
    (hpay : pay m c a r 0 ⊢ sepL (interp m c) rs) : Sound m K c cs cmd := by
  intro p Q
  rw [tally_id c cmd cs hz, hpre, hpost, hd]
  show iprop(ctx m K ∗ (interp m c (.cred a) ∗ interp m c (.pos a r) ∗ emp) ∗ debt c (tally c cs)) ⊢ _
  iintro ⟨#Hc, ⟨Hcr, Hp, -⟩, HO⟩ Hk
  iapply (wait_round m K c a (r := r) h hl hn hw) $$ [Hcr Hp HO]
  · isplitr; · iexact Hc
    isplitl [Hcr]; · iexact Hcr
    isplitl [Hp]; · iexact Hp
    iexact HO
  iintro ⟨Hp, Hb, HO⟩
  ihave Hb := (Entails.of_eq (rest_one m c a h ha)) $$ Hb
  iapply Hk
  isplitr [HO]
  · iapply (sepL_cons (interp m c) (.pos a (r + 1)) rs)
    isplitl [Hp]; · iexact Hp
    iapply hpay; iexact Hb
  iexact HO

theorem sound_gotQ (K c cs) (i : Fin 32) (hl : mayRun (.gotQ i) cs = true) : Sound m K c cs (.gotQ i) :=
  sound_own m K c cs (.gotQ i) (.q (m8 i)) (i.val / 8) [.qfull i] (round8 i) rfl hl rfl
    (w := .waitDma2 (qS (m8 i)) (itQ c i) (slot8 qM (m8 i)) (View.wordExact_bits rfl) (View.wordExact_bits rfl)) rfl
    (wpE_waitDma2_eq Variants.none (c : Thread nD τ) none Set.univ) (fun _ => rfl) rfl rfl
    (by rw [pay_q]; exact sepL_one (interp m c) (.qfull i))
theorem sound_gotL (K c cs) (i : Fin 32) (hl : mayRun (.gotL i) cs = true) : Sound m K c cs (.gotL i) :=
  sound_own m K c cs (.gotL i) (.l (m8 i)) (i.val / 8) [.lfull i] (round8 i) rfl hl rfl
    (w := .waitDma2 (lS (m8 i)) (itL c i) (slot8 lM (m8 i)) (View.wordExact_bits rfl) (View.wordExact_bits rfl)) rfl
    (wpE_waitDma2_eq Variants.none (c : Thread nD τ) none Set.univ) (fun _ => rfl) rfl rfl
    (by rw [pay_l]; exact sepL_one (interp m c) (.lfull i))
theorem sound_freeO (K c cs) (j : Fin 32) (hl : mayRun (.freeO j) cs = true) : Sound m K c cs (.freeO j) :=
  sound_own m K c cs (.freeO j) (.o (m4 j)) (j.val / 4) [.oslot (m4 j), .outD (item j).1 (item j).2] (round4 j) rfl hl rfl
    (w := .waitDma2 (oS (m4 j)) (slot4 bM (m4 j)) (winR oM ![0, 0] inb_S16384x1024_S512x1024_0_0) (View.wordExact_bits rfl) (View.wordExact_bits rfl)) rfl
    (wpE_waitDma2_eq Variants.none (c : Thread nD τ) none Set.univ) (fun _ => rfl) rfl rfl
    (by
      rw [pay_o]
      iintro ⟨H, H'⟩
      iapply (show iprop(oSlot c (m4 j) ∗ outDP m c (item j).1 (item j).2 ∗ emp)
        ⊢ sepL (interp m c) [.oslot (m4 j), .outD (item j).1 (item j).2] from Entails.refl _)
      isplitl [H]; · iexact H
      isplitl [H']; · iexact H'
      iempintro)

/-! ## Adding -/

theorem whole_setOn (b : Ref sig .tc) (M : Finset (Memref.whole b).view.ty.Idx) :
    (View.whole b).setOn M = M := by
  ext i
  constructor
  · intro h
    obtain ⟨j, hj, rfl⟩ := Finset.mem_map.mp h
    exact hj
  · intro h
    exact Finset.mem_map.mpr ⟨i, h, rfl⟩

theorem reads_slotL (n : Fin 8) : lM.view.setOn (rect8 n).toLoadRect.set ⊆ (slot8 lM n).view.set := by
  rw [set_slotL, ← rect8_set]
  exact fun i hi => by obtain ⟨j, hj, rfl⟩ := Finset.mem_map.mp hi; exact hj
theorem reads_slotQ (n : Fin 8) : qM.view.setOn (rect8 n).toLoadRect.set ⊆ (slot8 qM n).view.set := by
  rw [set_slotQ, ← rect8_set]
  exact fun i hi => by obtain ⟨j, hj, rfl⟩ := Finset.mem_map.mp hi; exact hj
theorem reads_slotO (n : Fin 4) : bM.view.setOn (rect4 n).toLoadRect.set ⊆ (slot4 bM n).view.set := by
  rw [set_slotO, ← rect4_set]
  exact fun i hi => by obtain ⟨j, hj, rfl⟩ := Finset.mem_map.mp hi; exact hj
theorem writes_slotO (n : Fin 4) : (bM.access (rect4 n)).setOn Finset.univ ⊆ (slot4 bM n).view.set := by
  rw [set_slotO, ← rect4_set, View.setOn_univ]
  exact (View.set_slice_whole _ _).subset

theorem sound_add (K c cs) (i : Fin 32) : Sound m K c cs (.add i) := by
  intro p Q
  rw [tally_id c (.add i) cs rfl]
  show iprop(ctx m K ∗ (lFull m c i ∗ qFull m c i ∗ oSlot c (m4 i) ∗ emp) ∗ debt c (tally c cs)) ⊢ _
  unfold lFull qFull oSlot
  iintro ⟨-, ⟨⟨%fl, %hl, Hl⟩, ⟨%fq, %hq, Hq⟩, ⟨%fb, Hb⟩, -⟩, HO⟩ Hk
  unfold denote
  iapply (wp_load Variants.none (c : Thread nD τ) none Set.univ (m := lM) (reads_slotL (m8 i))) $$ Hl; iintro Hl
  iapply (wp_load Variants.none (c : Thread nD τ) none Set.univ (m := qM) (reads_slotQ (m8 i))) $$ Hq; iintro Hq
  iapply (wp_load Variants.none (c : Thread nD τ) none Set.univ (m := bM) (reads_slotO (m4 i))) $$ Hb; iintro Hb
  iapply (wp_store Variants.none (c : Thread nD τ) none Set.univ (m := bM) (r := rect4 (m4 i)) (Mk := Finset.univ)
    (writes_slotO (m4 i))) $$ Hb; iintro Hb
  iapply Hk
  isplitr [HO]
  · iapply (show iprop(lSlot c (m8 i) ∗ qSlot c (m8 i) ∗ oFull m c i ∗ emp) ⊢ sepL (interp m c) (Cmd.add i).post from Entails.refl _)
    unfold lSlot qSlot oFull
    isplitl [Hl]; · iexists fl; iexact Hl
    isplitl [Hq]; · iexists fq; iexact Hq
    isplitl [Hb]
    · iexists _
      isplitr
      · ipureintro; exact read_stored m c i fl fq fb hl hq
      iexact Hb
    iempintro
  iexact HO

/-! ## Scripts -/

theorem sound (K c cs) (cmd : Cmd) (h : mayRun cmd cs = true) : Sound m K c cs cmd := by
  cases cmd with
  | sig n => exact sound_sig m K c cs n
  | bar => exact sound_bar m K c cs h
  | start ch k => exact sound_start m K c cs ch k
  | recv ch k => exact sound_recv m K c cs ch k h
  | sent ch k => exact sound_sent m K c cs ch k h
  | fetchQ i => exact sound_fetchQ m K c cs i
  | fetchL i => exact sound_fetchL m K c cs i
  | gotQ i => exact sound_gotQ m K c cs i h
  | gotL i => exact sound_gotL m K c cs i h
  | freeO j => exact sound_freeO m K c cs j h
  | add i => exact sound_add m K c cs i
  | put i => exact sound_put m K c cs i

theorem take1_sound (Φ : Res → sProp 𝕄) (a : Res) : ∀ {l l' : List Res}, take1 a l = some l' → sepL Φ l ⊢ iprop(Φ a ∗ sepL Φ l')
  | [], l', h => by cases h
  | b :: l, l', h => by
    unfold take1 at h
    split at h
    · next e => cases h; subst e; exact Entails.refl _
    · obtain ⟨l1, h1, rfl⟩ := Option.map_eq_some_iff.mp h
      show iprop(Φ b ∗ sepL Φ l) ⊢ iprop(Φ a ∗ Φ b ∗ sepL Φ l1)
      iintro ⟨H, H'⟩
      ihave H' := (take1_sound Φ a h1) $$ H'
      icases H' with ⟨H1, H2⟩
      isplitl [H1]; · iexact H1
      isplitl [H] <;> iassumption

theorem takeAll_sound (Φ : Res → sProp 𝕄) : ∀ {p l l' : List Res}, takeAll p l = some l' → sepL Φ l ⊢ iprop(sepL Φ p ∗ sepL Φ l')
  | [], l, l', h => by
    cases h
    show sepL Φ l ⊢ iprop(emp ∗ sepL Φ l)
    iintro H; isplitr; · iempintro
    iexact H
  | a :: p, l, l', h => by
    obtain ⟨l1, h1, h2⟩ := Option.bind_eq_some_iff.mp h
    show sepL Φ l ⊢ iprop((Φ a ∗ sepL Φ p) ∗ sepL Φ l')
    iintro H
    ihave H := (take1_sound Φ a h1) $$ H
    icases H with ⟨H1, H2⟩
    ihave H2 := (takeAll_sound Φ h2) $$ H2
    icases H2 with ⟨H2, H3⟩
    isplitr [H3]
    · isplitl [H1] <;> iassumption
    iexact H3

/-- A script that the bookkeeping runs, run. -/
theorem run_sound (K : Dev nD × SemLoc sig → ℕ) (c : Dev nD) (Q : PUnit → sProp 𝕄) : ∀ {cs : List Cmd} {s s' : List Res},
    check cs s = some s' →
    iprop(ctx m K ∗ sepL (interp m c) s ∗ debt c (tally c cs))
      ⊢ iprop(((sepL (interp m c) s' ∗ debt c 0) -∗ wpB c (.ret ⟨⟩) Q) -∗ wpB c (run c cs) Q)
  | [], s, s', h => by
    cases h
    iintro ⟨-, H, HO⟩ Hk
    unfold run
    iapply Hk
    isplitl [H]; · iexact H
    iexact HO
  | cmd :: cs, s, s', h => by
    unfold check at h
    split at h
    · next hm =>
      obtain ⟨s1, h1, h2⟩ := Option.bind_eq_some_iff.mp h
      iintro ⟨#Hc, H, HO⟩ Hk
      ihave H := (takeAll_sound (interp m c) h1) $$ H
      icases H with ⟨H1, H2⟩
      unfold run
      iapply (sound m K c cs cmd hm (run c cs) Q) $$ [H1 HO]
      · isplitr; · iexact Hc
        isplitl [H1]; · iexact H1
        iexact HO
      iintro ⟨H1, HO⟩
      iapply (run_sound K c Q h2) $$ [H1 H2 HO]
      · isplitr; · iexact Hc
        isplitr [HO]
        · iapply (sepL_append (interp m c) cmd.post s1).2
          isplitl [H1] <;> iassumption
        iexact HO
      iexact Hk
    · cases h

end Cert.Exchange

end
-- ==== Proof.Cells.lean ====
/-
The dealing out at the start: all semaphores of all devices listed by role, every right to raise one given to
the device that raises it, and every credit matched with what the devices owe.
-/
module

public import proofs.«01_k».proof.Proof.Local

@[expose] public section

noncomputable section

namespace Cert.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Lists and finite sets -/

theorem sepL_toFinset {ι : Type} [DecidableEq ι] (Φ : ι → sProp 𝕄) : ∀ {l : List ι}, l.Nodup → bigSep l.toFinset Φ = sepL Φ l
  | [], _ => rfl
  | a :: l, h => by
    obtain ⟨ha, hl⟩ := List.nodup_cons.mp h
    rw [List.toFinset_cons, bigSep_insert fun h' => ha (List.mem_toFinset.mp h'), sepL_toFinset Φ hl]
    rfl

/-- A family of lists is the list of families. -/
theorem bigSep_sepL {ι κ : Type} (S : Finset κ) (Φ : κ → ι → sProp 𝕄) : ∀ l : List ι,
    bigSep S (fun c => sepL (Φ c) l) = sepL (fun p => bigSep S fun c => Φ c p) l
  | [] => bigSep_emp_const S
  | p :: l => by
    show bigSep S (fun c => iprop(Φ c p ∗ sepL (Φ c) l)) = iprop((bigSep S fun c => Φ c p) ∗ sepL (fun p => bigSep S fun c => Φ c p) l)
    rw [bigSep_sep', bigSep_sepL S Φ l]

/-- Something of every pair is, of every first entry, something of every second. -/
theorem bigSep_pairs {ι κ : Type} [DecidableEq ι] [DecidableEq κ] (S : Finset ι) (T : Finset κ) (Φ : ι × κ → sProp 𝕄) :
    bigSep (S ×ˢ T) Φ = bigSep S fun a => bigSep T fun b => Φ (a, b) := by
  induction S using Finset.induction_on with
  | empty => rfl
  | insert a S ha ih =>
    have hd : Disjoint (T.map ⟨Prod.mk a, Prod.mk_right_injective a⟩) (S ×ˢ T) := by
      refine Finset.disjoint_left.mpr fun x hx hx' => ?_
      obtain ⟨b, -, rfl⟩ := Finset.mem_map.mp hx
      exact ha (Finset.mem_product.mp hx').1
    have he : insert a S ×ˢ T = T.map ⟨Prod.mk a, Prod.mk_right_injective a⟩ ∪ S ×ˢ T := by
      refine Finset.ext fun ⟨x, y⟩ => ?_
      rw [Finset.mem_union, Finset.mem_product, Finset.mem_product, Finset.mem_insert, Finset.mem_map]
      constructor
      · rintro ⟨rfl | hx, hy⟩
        · exact Or.inl ⟨y, hy, rfl⟩
        · exact Or.inr ⟨hx, hy⟩
      · rintro (⟨b, hb, h⟩ | ⟨hx, hy⟩)
        · cases h; exact ⟨Or.inl rfl, hb⟩
        · exact ⟨Or.inr hx, hy⟩
    rw [he, bigSep_union hd, bigSep_map, ih, bigSep_insert ha]
    rfl

theorem sepL_congr_mem {ι : Type} {Φ Ψ : ι → sProp 𝕄} : ∀ {l : List ι}, (∀ a ∈ l, Φ a = Ψ a) → sepL Φ l = sepL Ψ l
  | [], _ => rfl
  | a :: l, h => by
    show iprop(Φ a ∗ sepL Φ l) = iprop(Ψ a ∗ sepL Ψ l)
    rw [h a List.mem_cons_self, sepL_congr_mem fun b hb => h b (List.mem_cons_of_mem _ hb)]

theorem bigSep_keep {ι : Type} [DecidableEq ι] {S : Finset ι} {R : sProp 𝕄} [BI.Persistent R] {Φ Ψ : ι → sProp 𝕄}
    (h : ∀ i, iprop(R ∗ Φ i) ⊢ Ψ i) : iprop(R ∗ bigSep S Φ) ⊢ bigSep S Ψ := by
  refine BIBase.Entails.trans (sep_mono_left (BI.bigSep_of_persistent S R)) ?_
  rw [← bigSep_sep']
  exact bigSep_mono fun i _ => h i

/-! ## All semaphores, by role -/

theorem sem_injective : Function.Injective Cell.sem := fun a b h => by rw [← role_sem a, h, role_sem]

theorem nodup_allCells : allCells.Nodup := by decide +kernel

theorem mem_allCells (a : Cell) : a ∈ allCells := by
  cases a with
  | bar => decide +kernel
  | send ch k => cases ch <;> revert k <;> decide +kernel
  | recv ch k => cases ch <;> revert k <;> decide +kernel
  | q n => revert n; decide +kernel
  | l n => revert n; decide +kernel
  | o n => revert n; decide +kernel

theorem univ_sems : (Finset.univ : Finset (SemLoc sig)) = (allCells.map Cell.sem).toFinset :=
  Finset.ext fun s => ⟨fun _ => List.mem_toFinset.mpr (List.mem_map.mpr ⟨role s, mem_allCells _, sem_role s⟩), fun _ => Finset.mem_univ _⟩

/-- Something of every semaphore is something of every role. -/
theorem sems_cells (Φ : SemLoc sig → sProp 𝕄) : bigSep Finset.univ Φ = sepL (fun a => Φ a.sem) allCells := by
  rw [univ_sems, sepL_toFinset Φ (nodup_allCells.map sem_injective), sepL_map]

/-- The semaphores that only this kernel uses; the barrier's is the one other. -/
abbrev osem : Fin 100 → SemLoc sig := fun n => .dma n

theorem ownSemFacts : Pipeline.OwnSemFacts cfg0.spec osem where
  isScoped := by decide +kernel
  inj := fun a b h => by injection h
  disj := fun _ w => w.elim0

theorem scoped_sems : (Finset.univ.filter fun s : SemLoc sig => s.isScoped .tc = true)
    = Finset.univ.map ⟨osem, ownSemFacts.inj⟩ := by
  refine Finset.ext fun s => ⟨fun h => ?_, fun h => ?_⟩
  · cases s with
    | reg s =>
      have e : (SemLoc.reg s : SemLoc sig).isScoped .tc = false := by revert s; decide +kernel
      rw [Finset.mem_filter, e] at h; exact absurd h.2 (by decide)
    | dma n => exact Finset.mem_map.mpr ⟨n, Finset.mem_univ _, rfl⟩
  · obtain ⟨n, -, rfl⟩ := Finset.mem_map.mp h
    exact Finset.mem_filter.mpr ⟨Finset.mem_univ _, ownSemFacts.isScoped n⟩

/-- The counters of the kernel's own semaphores and of the barrier are those of all semaphores. -/
theorem counters (c : Dev nD) :
    (bigSep Finset.univ fun s : SemLoc sig => (semVal (kcell (c, s)) 0 : sProp 𝕄))
      = iprop(Pipeline.ownSems0 (Ix := Unit) (Name := ℕ) (U := UU) (Lvl := ℕ) (Val := Elt F) (τ := τ) osem c ∗ unscopedSems0 c) := by
  rw [bigSep_filter_split Finset.univ (fun s : SemLoc sig => s.isScoped .tc = true), scoped_sems, bigSep_map]
  rfl

/-! ## Rights -/

/-- Which duty of which own cell a right is for, before it is dealt out. -/
def dutyOf : Res → Cell × ℕ × Fin 3
  | .tokB n => (.bar, 0, n)
  | .tokR ch k => (.recv ch k, 0, 0)
  | .tok a r => (a, r, 0)
  | _ => (.bar, 0, 0)

/-- Whether a resource is a right. -/
def Res.isTok : Res → Bool
  | .tokB _ => true
  | .tokR _ _ => true
  | .tok _ _ => true
  | _ => false

theorem all_toks : ∀ b ∈ initToks, b.isTok = true := by decide +kernel

theorem nodup_duties : (initToks.map dutyOf).Nodup := by decide +kernel

/-- A duty of a device's cell. -/
def dutyAt (x : Dev nD × Cell × ℕ × Fin 3) : GSem nD τ sig × ℕ × Fin 3 := (gcell x.1 x.2.1, x.2.2)

theorem gcell_inj {c c' : Dev nD} {a a' : Cell} (h : gcell c a = gcell c' a') : c = c' ∧ a = a' :=
  ⟨congrArg (fun g : GSem nD τ sig => g.1.1) h, sem_injective (congrArg (fun g : GSem nD τ sig => g.2) h)⟩

theorem dutyAt_injective : Function.Injective dutyAt := by
  rintro ⟨c, a, x⟩ ⟨c', a', x'⟩ h
  obtain ⟨rfl, rfl⟩ := gcell_inj (congrArg Prod.fst h)
  have h2 : x = x' := congrArg Prod.snd h
  rw [h2]

theorem kcell_injective : Function.Injective kcell := by
  rintro ⟨c, s⟩ ⟨c', s'⟩ h
  have h1 : c = c' := congrArg (fun g : GSem nD τ sig => g.1.1) h
  have h2 : s = s' := congrArg (fun g : GSem nD τ sig => g.2) h
  rw [h1, h2]

/-- All cells, and all duties of all cells. -/
def cells : Finset (GSem nD τ sig) := Finset.univ.map ⟨kcell, kcell_injective⟩
def dutys : Finset (GSem nD τ sig × ℕ × Fin 3) :=
  (Finset.univ ×ˢ (initToks.map dutyOf).toFinset).map ⟨dutyAt, dutyAt_injective⟩

theorem bigSep_cells (Φ : GSem nD τ sig → sProp 𝕄) :
    bigSep cells Φ = bigSep Finset.univ fun c : Dev nD => bigSep Finset.univ fun s : SemLoc sig => Φ (kcell (c, s)) := by
  unfold cells; rw [bigSep_map, bigSep_univ_prod]; rfl

/-- The right that a duty of an own cell is. -/
def rightOf (c : Dev nD) (b : Res) : sProp 𝕄 :=
  dutyTok ER (gcell c (dutyOf b).1) (dutyOf b).2.1 (dutyOf b).2.2

theorem bigSep_dutys :
    bigSep dutys (fun x => (dutyTok ER x.1 x.2.1 x.2.2 : sProp 𝕄))
      = bigSep Finset.univ fun c : Dev nD => sepL (rightOf c) initToks := by
  unfold dutys
  rw [bigSep_map, bigSep_pairs]
  refine bigSep_congr fun c _ => ?_
  rw [sepL_toFinset _ nodup_duties, sepL_map]
  rfl

/-- A step to a neighbour and back, as a rearrangement of the devices. -/
def around (t : Dev nD → Dev nD) (h : ∀ c, t (t c) = c) : Dev nD ≃ Dev nD := ⟨t, t, h, h⟩

theorem rights_dealt_one (b : Res) (h : b.isTok = true) :
    (bigSep Finset.univ fun c : Dev nD => (rightOf c b : sProp 𝕄)) = bigSep Finset.univ fun c : Dev nD => interp m c b := by
  cases b with
  | tokB n => exact bigSep_univ_equiv (around (barTarget n) (barTarget_barTarget n)) _
  | tokR ch k => exact bigSep_univ_equiv (around (target ch k) (target_target ch k)) _
  | tok a r => rfl
  | _ => cases h

/-- Every right goes to the device that is to use it. -/
theorem rights_dealt :
    (bigSep Finset.univ fun c : Dev nD => sepL (rightOf (F := F) c) initToks)
      = bigSep Finset.univ fun c : Dev nD => sepL (interp m c) initToks := by
  rw [bigSep_sepL, bigSep_sepL]
  exact sepL_congr_mem fun b hb => rights_dealt_one m b (all_toks b hb)

/-! ## Credits -/

/-- The cells that other devices raise. -/
def credCells : List Cell := .bar :: allCh.map fun p => .recv p.1 p.2

theorem initCred_eq : initCred = credCells.map .cred := by
  unfold initCred credCells
  rw [List.map_cons, List.map_map]
  rfl

theorem nodup_credCells : credCells.Nodup := by decide +kernel

/-- How often a command raises a neighbour's cell of a role. -/
def hits (a : Cell) : Cmd → ℕ
  | .sig _ => if a = .bar then 1 else 0
  | .start ch k => if a = .recv ch k then 1 else 0
  | _ => 0

theorem hits_script : ∀ a ∈ credCells, (script.map (hits a)).sum = if a = .bar then 3 else 1 := by decide +kernel

theorem sum_around (t : Dev nD → Dev nD) (ht : ∀ c, t (t c) = c) (c : Dev nD) (a b : Cell) (k : ℕ) :
    (∑ d : Dev nD, (tallyAt (gcell (t d) b) () k : CellTallies nD τ sig Unit) (gcell c a) ()) = (if a = b then 1 else 0) * k := by
  by_cases h : a = b
  · subst h
    rw [if_pos rfl, Nat.one_mul, Finset.sum_eq_single (t c)]
    · rw [ht, tallyAt_apply, if_pos ⟨rfl, rfl⟩]
    · intro d _ hd
      rw [tallyAt_apply, if_neg]
      rintro ⟨h', -⟩
      exact hd (by rw [(gcell_inj h').1, ht])
    · exact fun h' => absurd (Finset.mem_univ _) h'
  · rw [if_neg h, Nat.zero_mul]
    refine Finset.sum_eq_zero fun d _ => ?_
    rw [tallyAt_apply, if_neg]
    rintro ⟨h', -⟩
    exact h (gcell_inj h').2

theorem sum_paid (c : Dev nD) (a : Cell) (cmd : Cmd) :
    (∑ d : Dev nD, paid d cmd (gcell c a) ()) = hits a cmd * a.unit := by
  cases cmd with
  | sig n =>
    refine (sum_around (barTarget n) (barTarget_barTarget n) c a .bar 1).trans ?_
    show _ = (if a = .bar then 1 else 0) * a.unit
    by_cases h : a = .bar
    · subst h; rfl
    · rw [if_neg h, Nat.zero_mul, Nat.zero_mul]
  | start ch k =>
    refine (sum_around (target ch k) (target_target ch k) c a (.recv ch k) (chN ch)).trans ?_
    show _ = (if a = .recv ch k then 1 else 0) * a.unit
    by_cases h : a = .recv ch k
    · subst h; rfl
    · rw [if_neg h, Nat.zero_mul, Nat.zero_mul]
  | _ => exact (Finset.sum_const_zero).trans (Nat.zero_mul _).symm

theorem sum_tally (c : Dev nD) (a : Cell) : ∀ cs : List Cmd,
    (∑ d : Dev nD, tally d cs (gcell c a) ()) = (cs.map (hits a)).sum * a.unit
  | [] => (Finset.sum_const_zero).trans (Nat.zero_mul _).symm
  | cmd :: cs => by
    rw [List.map_cons, List.sum_cons, Nat.add_mul, ← sum_paid c a cmd, ← sum_tally c a cs, Nat.add_comm, ← Finset.sum_add_distrib]
    rfl

/-- What the devices owe a cell that others raise is one round of it. -/
theorem owed_total (c : Dev nD) (a : Cell) (h : a ∈ credCells) : (∑ d : Dev nD, tally d script (gcell c a) ()) = a.total := by
  rw [sum_tally, hits_script a h]
  cases a with
  | bar => rfl
  | _ => exact Nat.one_mul _

/-- What a device owes at the start. -/
abbrev O₀ (c : Dev nD) : CellTallies nD τ sig Unit := tally c script

theorem launch_cell (c : Dev nD) (a : Cell) (h : a ∈ credCells) :
    tallyOn (gcell c a) (launchCredit (Pipeline.owing O₀) 0 (gcell c a)) = (tallyAt (gcell c a) () a.total : CellTallies nD τ sig Unit) := by
  unfold tallyAt
  refine congrArg _ (Finsupp.ext fun u => ?_)
  cases u
  rw [Pipeline.launchCredit_owing, Finsupp.single_eq_same, owed_total c a h]

/-- A device's credits at the start. -/
theorem credits (c : Dev nD) : (Pipeline.launchCred O₀ c : sProp 𝕄) ⊢ sepL (interp m c) initCred := by
  rw [initCred_eq, sepL_map]
  unfold Pipeline.launchCred
  refine BIBase.Entails.trans (bigSep_subset (Finset.subset_univ (credCells.map Cell.sem).toFinset)) ?_
  rw [sepL_toFinset _ (nodup_credCells.map sem_injective), sepL_map]
  refine Entails.of_eq (sepL_congr_mem fun a ha => ?_)
  show cred (tallyOn (gcell c a) (launchCredit (Pipeline.owing O₀) 0 (gcell c a))) = cred (tallyAt (gcell c a) () a.total)
  rw [launch_cell c a ha]

/-! ## The end of every cell -/

/-- A device at the last round of cells of its own closes them. -/
theorem close_cells (K : Dev nD × SemLoc sig → ℕ) (c : Dev nD) : ∀ l : List Cell,
    iprop(ctx m K ∗ sepL (interp m c) (l.map fun a => Res.pos a a.rounds))
      ⊢ |={Set.univ}=> (sepL (fun a => semVal (gcell c a) 0) l : sProp 𝕄)
  | [] => by
    iintro -
    imodintro
    iapply (sepL_nil (fun a : Cell => (semVal (gcell c a) 0 : sProp 𝕄))); iempintro
  | a :: l => by
    show iprop(ctx m K ∗ (interp m c (.pos a a.rounds) ∗ sepL (interp m c) (l.map fun a => Res.pos a a.rounds)))
      ⊢ |={Set.univ}=> iprop(semVal (gcell c a) 0 ∗ sepL (fun a => semVal (gcell c a) 0) l)
    rw [show interp m c (.pos a a.rounds) = iprop(atPos ER (gcell c a) a.rounds ∅ 0 ∗ reached ER (gcell c a) a.rounds) from rfl]
    iintro ⟨#Hc, ⟨Ha, -⟩, Hl⟩
    imod (Rounds.cell_close ER (sched m) (Set.mem_univ (K (c, a.sem))) (fun h => h) (R := a.rounds) (fun r h => duties_over m c a r h)) $$ [Ha] with Hv
    · isplitr; · iapply (ctx_inv m K c a); iexact Hc
      iexact Ha
    imod (close_cells K c l) $$ [Hl] with Hl
    · isplitr; · iexact Hc
      iexact Hl
    imodintro
    isplitl [Hv] <;> iassumption

end Cert.Exchange

end
-- ==== Proof.Reach.lean ====
/-
The whole script can be run from what a device holds at the start.
-/
module

public import proofs.«01_k».proof.Proof.Net

@[expose] public section

namespace Cert.Exchange

set_option maxRecDepth 65536 in
/-- The script runs, and leaves what the end needs. -/
theorem script_runs : ((check script initRes).bind (takeAll finalRes)).isSome = true := by decide +kernel

end Cert.Exchange

end
-- ==== Proof.Launch.lean ====
/-
The launch. Every device starts with its share of the dealing and its own memory, runs the script, and ends
with the sum in its result, its argument as it was and all its semaphores at zero.
-/
module

public import proofs.«01_k».proof.Proof.Cells
public import proofs.«01_k».proof.Proof.Reach

@[expose] public section

noncomputable section

namespace Cert.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

local notation "𝕄" => MT nD τ sig Unit (Elt F) ℕ UU ℕ

/-! ## Between the dealing and the body -/

/-- The three buffers in fast memory, with any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The arrays, cut for the script. -/
def arrays (c : Dev nD) : sProp 𝕄 :=
  iprop(sepL (fun p : Ch × Fin 8 => landP c p.1 p.2) allCh ∗ sepL (fun k => srcP m c .y k) (List.finRange 8)
    ∗ sepL (fun p : Grp × Fin 8 => itlP m c p.1 p.2) allG ∗ sepL (fun p : Grp × Fin 8 => outP c p.1 p.2) allG)

/-- What a device starts from, but for its fast memory. -/
def start (c : Dev nD) : sProp 𝕄 :=
  iprop((∃ K, ctx m K ∗ sepL (interp m c) initPos ∗ sepL (interp m c) initToks) ∗ sepL (interp m c) initCred ∗ arrays m c)

/-- Before the body, and after it. -/
def Φ₀ (c : Dev nD) : sProp 𝕄 := iprop(start m c ∗ scratch c)
def Φ₁ (c : Dev nD) : sProp 𝕄 :=
  iprop((((c : Thread nD τ).loc main_v1_0) ↦{fullShare} outFin m c)
    ∗ (bigSep Finset.univ fun s : SemLoc sig => semVal (kcell (c, s)) 0) ∗ scratch c)

/-- The arrays and the fast memory are the memory that the script starts from. -/
theorem memory (c : Dev nD) : iprop(arrays m c ∗ scratch c) ⊢ sepL (interp m c) initMem := by
  unfold arrays scratch initMem
  iintro ⟨⟨H1, H2, H3, H4⟩, ⟨%f, Hq⟩, ⟨%g, Hl⟩, ⟨%h, Ho⟩⟩
  iapply (sepL_append (interp m c) _ _).2
  isplitl [H1]; · rw [sepL_map]; iexact H1
  iapply (sepL_append (interp m c) _ _).2
  isplitl [H2]; · rw [sepL_map]; iexact H2
  iapply (sepL_append (interp m c) _ _).2
  isplitl [H3]; · rw [sepL_map]; iexact H3
  iapply (sepL_append (interp m c) _ _).2
  isplitl [H4]; · rw [sepL_map]; iexact H4
  iapply (sepL_append (interp m c) _ _).2
  isplitl [Hq]; · rw [sepL_map]; iapply (cut_q c); iexists f; iexact Hq
  iapply (sepL_append (interp m c) _ _).2
  isplitl [Hl]; · rw [sepL_map]; iapply (cut_l c); iexists g; iexact Hl
  rw [sepL_map]; iapply (cut_o c); iexists h; iexact Ho

/-- What the script leaves is the result, the closed semaphores and the fast memory. -/
theorem finish_all (K : Dev nD × SemLoc sig → ℕ) (c : Dev nD) :
    iprop(ctx m K ∗ sepL (interp m c) finalRes) ⊢ |={Set.univ}=> Φ₁ m c := by
  unfold finalRes Φ₁ scratch
  iintro ⟨#Hc, H⟩
  ihave H := (sepL_append (interp m c) _ _).1 $$ H
  icases H with ⟨HO, H⟩
  ihave H := (sepL_append (interp m c) _ _).1 $$ H
  icases H with ⟨Hq, H⟩
  ihave H := (sepL_append (interp m c) _ _).1 $$ H
  icases H with ⟨Hl, H⟩
  ihave H := (sepL_append (interp m c) _ _).1 $$ H
  icases H with ⟨Ho, H⟩
  imod (close_cells m K c allCells) $$ [H] with Hv
  · isplitr; · iexact Hc
    iexact H
  imodintro
  isplitl [HO]
  · iapply (join_out m c)
    iapply (Entails.of_eq (sepL_map (interp m c) (fun p : Grp × Fin 8 => Res.outD p.1 p.2) allG)); iexact HO
  isplitl [Hv]
  · iapply (Entails.of_eq (sems_cells fun s : SemLoc sig => (semVal (kcell (c, s)) 0 : sProp 𝕄)).symm); iexact Hv
  isplitl [Hq]
  · iapply (join_q c (m ((c : Thread nD τ).loc cc0_scratch0)))
    iapply (Entails.of_eq (sepL_map (interp m c) Res.qslot (List.finRange 8))); iexact Hq
  isplitl [Hl]
  · iapply (join_l c (m ((c : Thread nD τ).loc cc0_scratch1)))
    iapply (Entails.of_eq (sepL_map (interp m c) Res.lslot (List.finRange 8))); iexact Hl
  iapply (join_o c (m ((c : Thread nD τ).loc cc0_scratch2)))
  iapply (Entails.of_eq (sepL_map (interp m c) Res.oslot (List.finRange 4))); iexact Ho

/-- The body, on a device. -/
theorem sound_body (c : Dev nD) (t : Fin cfg0.N) :
    iprop(Φ₀ m c ∗ debt c (O₀ c))
      ⊢ wpB c (bodyAt0 t) (fun _ => iprop(Φ₁ m c ∗ debt c 0)) := by
  obtain ⟨r, hr⟩ := Option.isSome_iff_exists.mp script_runs
  obtain ⟨s', h1, h2⟩ := Option.bind_eq_some_iff.mp hr
  rw [body_eq_run]
  unfold Φ₀ start wpB
  rw [wp_deviceId]
  iintro ⟨⟨⟨⟨%K, #Hc, Hpos, Htok⟩, Hcr, Harr⟩, Hscr⟩, HO⟩
  iapply (run_sound m K c (fun _ => iprop(Φ₁ m c ∗ debt c 0)) h1) $$ [Hpos Htok Hcr Harr Hscr HO]
  · isplitr; · iexact Hc
    isplitr [HO]
    · unfold initRes
      iapply (sepL_append (interp m c) _ _).2
      isplitl [Hcr]; · iexact Hcr
      iapply (sepL_append (interp m c) _ _).2
      isplitl [Hpos]; · iexact Hpos
      iapply (sepL_append (interp m c) _ _).2
      isplitl [Htok]; · iexact Htok
      iapply (memory m c)
      isplitl [Harr] <;> iassumption
    iexact HO
  iintro ⟨H, HO⟩
  ihave H := (takeAll_sound (interp m c) h2) $$ H
  icases H with ⟨H, -⟩
  unfold wpB
  rw [wp_ret]
  imod (finish_all m K c) $$ [H] with H
  · isplitr; · iexact Hc
    iexact H
  imodintro
  isplitl [H]; · iexact H
  iexact HO

/-! ## The launch's data -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

set_option maxRecDepth 65536 in
theorem body_obligation (c : Dev nD) : BodyObligation (dats m 0 c) (defs₀ (F := F)) 𝒱₀ () Set.univ := fun t => by
  rw [fin_N0 t]
  show iprop(Φ₀ m c ∗ (dats m 0 c).owesAt () (t0_0 : Fin cfg0.N).castSucc ∗ emp) ⊢ wpB c (bodyAt0 t0_0) (fun _ =>
    iprop(Φ₁ m c ∗ (dats m 0 c).owesAt () (t0_0 : Fin cfg0.N).succ ∗ emp))
  iintro ⟨H, ⟨%W, -, HO⟩, -⟩
  iapply (wp_mono frame (wpE (defs₀ (F := F)) 𝒱₀ (c : Thread nD τ) none) Set.univ
    (Q := fun _ => iprop(Φ₁ m c ∗ debt c 0)) (fun _ => by
      iintro ⟨H, ⟨%W, HO⟩⟩
      isplitl [H]; · iexact H
      isplitl [HO]
      · iexists W
        isplitr; · ipureintro; exact fun _ _ => Or.inl trivial
        iexact HO
      iempintro))
  iapply (sound_body m c t0_0)
  isplitl [H]; · iexact H
  iexists W; iexact HO

end Cert.Exchange

end
-- ==== Proof.Run.lean ====
/-
The run of all devices: the dealing at the launch, and the theorem that every run ends with the sums, the
arguments unchanged and every semaphore at zero.
-/
module

public import proofs.«01_k».proof.Proof.Launch
public import Idealize.ShloMosaic.Lib.Pipeline.CollectiveSegs

@[expose] public section

noncomputable section

namespace Cert.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ UU ℕ

/-! ## The dealing -/

/-- The element that the launch starts from. -/
def u₀ : UU :=
  (initOf (Pipeline.cells cfgs cellOf_inj) (Pipeline.launchToks cfgs cellOf_inj), initOf cells dutys)

/-- Something of every semaphore of a device. -/
abbrev every (c : Dev nD) (Φ : GSem nD τ sig → sProp 𝕄) : sProp 𝕄 := bigSep Finset.univ fun s : SemLoc sig => Φ (kcell (c, s))

/-- What it deals to a device, and what the device holds once the invariants stand. -/
def G (c : Dev nD) : sProp 𝕄 :=
  iprop(every c (fun g => roundState ER (sched m) g 0) ∗ every c (fun g => atPos ER g 0 ∅ 0)
    ∗ every c (fun g => reached ER g 0) ∗ sepL (rightOf c) initToks)

/-- What all devices know of the cells. -/
def records (K : Dev nD × SemLoc sig → ℕ) : sProp 𝕄 :=
  iprop((bigSep Finset.univ fun x : Dev nD × SemLoc sig => cellInv ER (sched m) (K x) (kcell x))
    ∗ bigSep Finset.univ fun x : Dev nD × SemLoc sig => reached ER (kcell x) 0)

instance records_persistent (K : Dev nD × SemLoc sig → ℕ) : BI.Persistent (records m K) := by unfold records; infer_instance

def G' (c : Dev nD) : sProp 𝕄 :=
  iprop(∃ K, records m K ∗ sepL (interp m c) initPos ∗ sepL (interp m c) initToks)

theorem deal : BI.own (ER (initOf cells dutys)) ⊢ (|==> bigSep Finset.univ (G m) : sProp 𝕄) := by
  iintro H
  imod (Rounds.fund ER (sched m) cells dutys) $$ H with ⟨H1, H2, H3, H4⟩
  imodintro
  ihave H1 := (Entails.of_eq (bigSep_cells fun g => roundState ER (sched m) g 0)) $$ H1
  ihave H2 := (Entails.of_eq (bigSep_cells (F := F) fun g => reached ER g 0)) $$ H2
  ihave H3 := (Entails.of_eq (bigSep_cells (F := F) fun g => atPos ER g 0 ∅ 0)) $$ H3
  ihave H4 := (Entails.of_eq (bigSep_dutys (F := F))) $$ H4
  unfold G every
  simp only [bigSep_sep']
  isplitl [H1]; · iexact H1
  isplitl [H3]; · iexact H3
  isplitl [H2]; · iexact H2
  iexact H4

/-- On one device the invariants are set up. -/
theorem set_up (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (sched m) κ (kcell (c, s))))
          ∗ every c (fun g => atPos ER g 0 ∅ 0) ∗ every c (fun g => reached ER g 0) ∗ sepL (rightOf c) initToks) := by
  unfold G
  iintro ⟨H1, H2, Hst, Hrest⟩
  ihave Hv := (Entails.of_eq (counters (F := F) c).symm) $$ [H1 H2]
  · isplitl [H1] <;> iassumption
  imod (show iprop((bigSep Finset.univ fun s : SemLoc sig => semVal (kcell (c, s)) 0) ∗ every c (fun g => roundState ER (sched m) g 0))
      ⊢ (|={Set.univ}=> bigSep Finset.univ fun s : SemLoc sig => iprop(∃ κ : ℕ, cellInv ER (sched m) κ (kcell (c, s))) : sProp 𝕄) from by
        unfold every
        rw [← bigSep_sep']
        exact (bigSep_mono fun s _ => (Rounds.body_intro ER (sched m) (kcell (c, s))).trans inv_alloc).trans (bigSep_fupd _ _)) $$ [Hv Hst] with HI
  · isplitl [Hv] <;> iassumption
  imodintro
  isplitl [HI]; · iexact HI
  iexact Hrest

/-- A device's positions, by role. -/
theorem positions (K : Dev nD × SemLoc sig → ℕ) (c : Dev nD) :
    iprop(records m K ∗ every c (fun g => atPos ER g 0 ∅ 0)) ⊢ sepL (interp m c) initPos := by
  have h : iprop(every c (fun g => reached ER g 0) ∗ every c (fun g => atPos ER g 0 ∅ 0)) ⊢ sepL (interp m c) initPos := by
    unfold every
    rw [← bigSep_sep', sems_cells]
    unfold initPos
    rw [sepL_map]
    exact sepL_mono_mem fun a _ => by
      show iprop(reached ER (gcell c a) 0 ∗ atPos ER (gcell c a) 0 ∅ 0) ⊢ iprop(atPos ER (gcell c a) 0 ∅ 0 ∗ reached ER (gcell c a) 0)
      iintro ⟨H1, H2⟩
      isplitl [H2] <;> iassumption
  refine BIBase.Entails.trans (sep_mono_left ?_) h
  unfold records every
  refine (sep_elim_right (PROP := sProp 𝕄)).trans ?_
  rw [bigSep_univ_prod]
  exact bigSep_elim (Finset.mem_univ c)

theorem gather_up :
    (bigSep Finset.univ fun c : Dev nD => iprop((bigSep Finset.univ fun s : SemLoc sig => iprop(∃ κ : ℕ, cellInv ER (sched m) κ (kcell (c, s))))
          ∗ every c (fun g => atPos ER g 0 ∅ 0) ∗ every c (fun g => reached ER g 0) ∗ sepL (rightOf c) initToks) : sProp 𝕄)
      ⊢ bigSep Finset.univ (G' m) := by
  rw [bigSep_sep', bigSep_sep', bigSep_sep',
    ← bigSep_univ_prod (fun x : Dev nD × SemLoc sig => iprop(∃ κ : ℕ, cellInv ER (sched m) κ (kcell x))),
    ← bigSep_univ_prod (fun x : Dev nD × SemLoc sig => (reached ER (kcell x) 0 : sProp 𝕄)), rights_dealt m]
  iintro ⟨HI, Hat, #HR, Htok⟩
  ihave HK := (BI.bigSep_exists_pi Finset.univ (fun (x : Dev nD × SemLoc sig) (κ : ℕ) => (cellInv ER (sched m) κ (kcell x) : sProp 𝕄))) $$ HI
  icases HK with ⟨%K, #HI⟩
  iapply (bigSep_keep (R := records m K) (Φ := fun c => iprop(every c (fun g => atPos ER g 0 ∅ 0) ∗ sepL (interp m c) initToks)) (Ψ := G' m)
    fun c => by
      unfold G'
      iintro ⟨#HR, Hat, Htok⟩
      iexists K
      isplitr; · iexact HR
      isplitl [Hat]
      · iapply (positions m K c)
        isplitr; · iexact HR
        iexact Hat
      iexact Htok)
  isplitr
  · unfold records
    isplitr; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => set_up m c).trans (bigSep_fupd _ _)).trans (BI.fupd_mono (gather_up m))

/-! ## In and out of the body -/

/-- The half of the argument that stays outside. -/
def keep (c : Dev nD) : sProp 𝕄 := ((c : Thread nD τ).loc main_arg0) ↦{fullShare.left} xFin m c

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ keep m c) := by
  rw [Pipeline.unscopedRestP_none, unscopedRest0_eq]
  unfold G' start arrays keep
  iintro ⟨⟨Hx, Ho, Hr⟩, #Hlev, Hcr, -, ⟨%K, #HR, Hpos, Htok⟩⟩
  ihave Hx := (cut_x m c) $$ Hx
  icases Hx with ⟨Hx, Hs, Hl⟩
  ihave Ho := (cut_out c _) $$ Ho
  ihave Hr := (cut_r c _) $$ Hr
  ihave Hcr := (credits m c) $$ Hcr
  imodintro
  isplitr [Hx]
  · isplitl [Hpos Htok]
    · iexists K
      isplitr
      · unfold ctx records
        icases HR with ⟨H1, H2⟩
        isplitl [H1]; · iexact H1
        isplitl [H2]; · iexact H2
        iexact Hlev
      isplitl [Hpos] <;> iassumption
    isplitl [Hcr]; · iexact Hcr
    isplitl [Hr]; · iexact Hr
    isplitl [Hs]; · iexact Hs
    isplitl [Hl] <;> iassumption
  iexact Hx

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨H, -, H'⟩
  isplitl [H] <;> iassumption

/-- What a device leaves outside. -/
def left (c : Dev nD) : sProp 𝕄 := iprop((((c : Thread nD τ).loc main_v1_0) ↦{fullShare} outFin m c) ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ scratch left
  rw [counters]
  iintro ⟨H, ⟨H1, H2⟩, H3⟩
  isplitl [H H2]
  · isplitl [H] <;> iassumption
  isplitl [H1] <;> iassumption

theorem waits (c : Dev nD) : (levAts L lv : sProp 𝕄) ⊢ Pipeline.cellsWaits cfgs (dats m) () 0 c :=
  Pipeline.cellsWaits_intro cfgs (dats m) () 0 c fun w _ _ => w.elim0

/-- How a device's memory ends. -/
def Ends (c : Dev nD) (s : MemSt nD τ sig (Elt F)) : Prop :=
  s.mem ((c : Thread nD τ).loc main_arg0) = m ((c : Thread nD τ).loc main_arg0)
    ∧ s.mem ((c : Thread nD τ).loc main_v1_0) = outFin m c

theorem read_end (c : Dev nD) (s : Phys nD τ sig (Elt F)) :
    iprop(left m c ∗ keep m c ∗ SI s)
      ⊢ |={Set.univ}=> iprop(⌜Ends m c s.mem ∧ ∀ sm : SemLoc sig, sm.isScoped .tc = false → s.mem.sem ((c.tc : Thread nD τ), sm) = 0⌝ ∗ SI s) := by
  unfold left keep
  iintro ⟨⟨Ho, Hu⟩, Hx, HSI⟩
  icombine HSI Ho gives %ho
  icombine HSI Hx gives %hx
  imod (Pipeline.unscopedSems0_read (X := unscopedSems0 c) (c := c) fupd_intro s) $$ [Hu HSI] with ⟨%hs, HSI⟩
  · isplitl [Hu] <;> iassumption
  imodintro
  isplitr
  · ipureintro; exact ⟨⟨funext fun i => hx i (Finset.mem_univ i), funext fun i => ho i (Finset.mem_univ i)⟩, hs⟩
  iexact HSI

/-! ## The run -/

set_option maxRecDepth 65536 in
/-- From any memory with all semaphores at zero, every run of all devices ends, and it ends with every device's
argument unchanged, its sum in its result, and all semaphores at zero. -/
theorem run_all : θ_run defs (onTc (τ := τ) (main (F := F))) ⟨m, fun _ => 0, ρ⟩
    (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ w => w.elim0) (hpf := fun _ k => k.elim0)
    (X := start m) (Y := left m) (Z := keep m)
    (hX := start_intro m ρ) (hin := phi0_intro m) (hout := phi1_exit m)
    (QY := fun c s => Ends m c s ∧ ∀ sm : SemLoc sig, sm.isScoped .tc = false → s.sem ((c.tc : Thread nD τ), sm) = 0)
    (hY := fun c s => read_end m c s)
    (hQ := fun _ h hs => ⟨fun c => (h c).2.2.1, sem_eq_zero hs fun c => (h c).2.2.2⟩)

end Cert.Exchange

end
-- ==== Proof.Value.lean ====
/-
The value: at exact arithmetic, a device's result is its columns of the sum of the two blocks of the argument.
-/
module

public import proofs.«01_k».proof.Proof.Proto
public import proofs.«01_k».proof.Proof.Gen.ReferenceIdeal.Run
public import Idealize.ShloMosaic.Lib.Layout
public import Idealize.ShloMosaic.Lib.Pointwise.Reduce
public import Idealize.ShloMosaic.PureOps.Ideal.Laws

@[expose] public section

noncomputable section

namespace Cert.Exchange

open Cert.Kernel Cert.Kernel.Gen
open Idealize.ShloMosaic Idealize.ShloMosaic.TcCoe

/-- An array of the two blocks of the argument, and its sum over them. -/
abbrev Whole : Type := Cert.ReferenceIdeal.S2x16384x2048.Idx → Elt Ideal .f32
abbrev total (V : Whole) : Cert.ReferenceIdeal.S16384x2048.Idx → Elt Ideal .f32 :=
  Host.reduceAdd (F := Ideal) (φ := .f32) V (constant Cert.ReferenceIdeal.S_ .f32 0x00000000#32)
    Cert.ReferenceIdeal.Gen.facts.reducesTo_S2x16384x2048_S16384x2048_d0 Cert.ReferenceIdeal.Gen.facts.h_S_

/-- The sum at an index: one element of either block. -/
theorem total_apply (V : Whole) (r : Fin 16384) (j : Fin 2048) :
    total V (ix2 r j) = (V (ix3 0 r j) + V (ix3 1 r j) : EReal) := by
  show FloatOps.hostReduceAdd (F := Ideal) (φ := .f32) _ _ _ _ _ _ = _
  rw [Ideal.hostReduceAdd_def, Ideal.hostReduceAdd_r3_a0]
  show Ideal.ofBits .f32 0x00000000#32 + _ = _
  rw [Ideal.ofBits_zero_f32, zero_add, Fin.sum_univ_two]
  rfl

theorem yOf_srcDev (c : Dev nD) (row : Fin 16384) : yOf (srcDev c row) = 1 - yOf c := by
  have h := row.isLt
  show (4 * (row.val / 8192) + 2 * (1 - c.val / 2 % 2) + row.val / 4096 % 2) / 2 % 2 = 1 - c.val / 2 % 2
  omega

variable (m : (ℓ : Loc nD τ sig) → Buf (Elt Ideal) ℓ)

/-- The arguments of the devices are the blocks of the whole array. -/
abbrev Parts (V : Whole) : Prop := ∀ c : Dev nD, m ((c : Thread nD τ).loc main_arg0)
  = Layout.blockN ⟨3, ![1, 16384, 2048]⟩ ⟨3, ![2, 16384, 2048]⟩ (Layout.meshBlock [2, 2, 2] ![[1], [], []] c) V

/-- An element of a device's argument in the whole array. -/
theorem part_apply {V : Whole} (h : Parts m V) (c : Dev nD) (r : Fin 16384) (j : Fin 2048) :
    m ((c : Thread nD τ).loc main_arg0) (ix3 (0 : Fin 1) r j)
      = V (ix3 (⟨yOf c, Nat.mod_lt _ (by decide)⟩ : Fin 2) r j) := by
  rw [h c]
  refine congrArg V (funext fun b => Fin.ext ?_)
  match b with
  | ⟨0, _⟩ => show (c.val / 2 % 2 * 1 + 0) * 1 + 0 = c.val / 2 % 2; omega
  | ⟨1, _⟩ => show 0 * 16384 + r.val = r.val; omega
  | ⟨2, _⟩ => show 0 * 2048 + j.val = j.val; omega

/-- Two elements, one of either block, in the order of a device's side. -/
theorem pair_sum (V : Whole) (y : ℕ) (h : y < 2) (h' : 1 - y < 2) (r : Fin 16384) (j : Fin 2048) :
    (V (ix3 (⟨y, h⟩ : Fin 2) r j) + V (ix3 (⟨1 - y, h'⟩ : Fin 2) r j) : EReal) = V (ix3 0 r j) + V (ix3 1 r j) := by
  obtain rfl | rfl : y = 0 ∨ y = 1 := by omega
  · rfl
  · exact add_comm (G := EReal) _ _

/-- A device's result is its block of the sum. -/
theorem out_value {V : Whole} (h : Parts m V) (c : Dev nD) :
    outFin m c = Layout.blockN ⟨2, ![16384, 1024]⟩ ⟨2, ![16384, 2048]⟩ (Layout.meshBlock [2, 2, 2] ![[], [1]] c) (total V) := by
  refine funext fun (i : S16384x1024.Idx) => ?_
  have hi : (Layout.blockN ⟨2, ![16384, 1024]⟩ ⟨2, ![16384, 2048]⟩ (Layout.meshBlock [2, 2, 2] ![[], [1]] c) (total V)) i
      = total V (ix2 (i 0) (colOf c (i 1))) := by
    refine congrArg (total V) (funext fun b => Fin.ext ?_)
    match b with
    | ⟨0, _⟩ => show 0 * 16384 + (i 0).val = (i 0).val; omega
    | ⟨1, _⟩ => show (c.val / 2 % 2 * 1 + 0) * 1024 + (i 1).val = 1024 * (c.val / 2 % 2) + (i 1).val; omega
  have hl : lFin m c i = _ := part_apply m h c (i 0) (colOf c (i 1))
  have hr : rFin m c i = _ := part_apply m h (srcDev c (i 0)) (i 0) (colOf c (i 1))
  have e : (⟨yOf (srcDev c (i 0)), Nat.mod_lt _ (by decide)⟩ : Fin 2) = ⟨1 - yOf c, by omega⟩ := Fin.ext (yOf_srcDev c (i 0))
  have hr' := hr.trans (congrArg (fun k : Fin 2 => V (ix3 k (i 0) (colOf c (i 1)))) e)
  have ho : outFin m c i = _ := congrArg₂ (fun x y : EReal => x + y) hl hr'
  exact ho.trans ((pair_sum V (yOf c) _ _ (i 0) (colOf c (i 1))).trans ((total_apply V (i 0) (colOf c (i 1))).symm.trans hi.symm))

end Cert.Exchange

end
-- ==== Proof.Transfer.lean ====
/-
The idealized kernel is the same program as the kernel, and the reference has no semaphore: what this gives of
their runs.
-/
module

public import proofs.«01_k».proof.Proof.Run
public import proofs.«01_k».proof.Proof.Value
public import proofs.«01_k».proof.Proof.Gen.KernelIdeal
public import Idealize.ShloMosaic.Lib.Tactic

@[expose] public section

set_option maxRecDepth 65536

noncomputable section

namespace Cert.Exchange

open Idealize.ShloMosaic Idealize.ShloMosaic.TcCoe Idealize.SL.Sem

/-- The two programs are one text. -/
theorem ideal_main : Cert.KernelIdeal.main (F := Ideal) = Cert.Kernel.main (F := Ideal) := by sl_kernel_rfl
theorem ideal_defs : Cert.KernelIdeal.defs (F := Ideal) = Cert.Kernel.defs (F := Ideal) := by sl_kernel_rfl

/-- Every run of the idealized kernel ends with the sums, the arguments unchanged, every semaphore at zero. -/
theorem ideal_run_all (m : (ℓ : Loc Cert.Kernel.nD Cert.Kernel.τ Cert.Kernel.sig) → Buf (Elt Ideal) ℓ)
    (ρ : Dev Cert.Kernel.nD → PrngReg) :
    θ_run (Cert.KernelIdeal.defs (F := Ideal)) (onTc (τ := Cert.KernelIdeal.τ) (Cert.KernelIdeal.main (F := Ideal)))
      ⟨m, fun _ => 0, ρ⟩ (fun r => (∀ c, Ends m c r.2) ∧ r.2.sem = fun _ => 0) := by
  rw [ideal_main, ideal_defs]
  exact run_all m ρ

/-- The reference's signature has no semaphore. -/
theorem reference_no_sem (s : SemLoc Cert.ReferenceIdeal.sig) : False := by
  rcases s with s | s
  all_goals exact s.elim0

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Transfer
public import Idealize.ShloMosaic.Adequacy
public import Idealize.ShloMosaic.Init

@[expose] public section

noncomputable section

namespace Cert.Proof

open Idealize.ShloMosaic Idealize.ShloMosaic.TcCoe Idealize.SL.Sem Cert.Exchange

/-- The kernel, over bit patterns, ends quiet. -/
theorem quiet_kernel : Cert.quiescent_Kernel (hKernel := Cert.Kernel.Gen.facts) := fun m g _ =>
  (θ_run Cert.Kernel.defs _ _).mono (fun _ h => ⟨fun c => (h.1 c).1, h.2⟩) (run_all m g)

/-- The idealized kernel ends quiet. -/
theorem quiet_ideal : Cert.quiescent_KernelIdeal (hKernelIdeal := Cert.KernelIdeal.Gen.facts) := fun m g _ =>
  (θ_run Cert.KernelIdeal.defs _ _).mono (fun _ h => ⟨fun c => (h.1 c).1, h.2⟩) (ideal_run_all m g)

/-- The reference ends quiet: it has no semaphore that could be left raised. -/
theorem quiet_reference : Cert.quiescent_ReferenceIdeal (hReferenceIdeal := Cert.ReferenceIdeal.Gen.facts) := fun m g _ =>
  (θ_run Cert.ReferenceIdeal.defs _ _).mono
    (fun _ h => ⟨fun c => (h c).2, funext fun s => (reference_no_sem s.2).elim⟩) (Cert.ReferenceIdeal.Value.run m g)

/-- At exact arithmetic every device of the kernel ends with its block of the reference's result. -/
theorem same_sum : Cert.algebraic_KernelIdeal_ReferenceIdeal (hKernelIdeal := Cert.KernelIdeal.Gen.facts)
    (hReferenceIdeal := Cert.ReferenceIdeal.Gen.facts) := fun m g m' g' _ hm =>
  ⟨total (m' (((0 : Dev Cert.ReferenceIdeal.nD) : Thread Cert.ReferenceIdeal.nD Cert.ReferenceIdeal.τ).loc Cert.ReferenceIdeal.main_arg0)),
    (θ_run Cert.KernelIdeal.defs _ _).mono
      (fun _ h c => ⟨(h.1 c).2.trans (out_value m hm c), (h.1 c).1⟩) (ideal_run_all m g),
    (θ_run Cert.ReferenceIdeal.defs _ _).mono (fun _ h => h 0) (Cert.ReferenceIdeal.Value.run m' g')⟩

/-- Everything claimed; the idealization rewrites nothing, so what it preserves is immediate. -/
theorem claim : Cert.Claim := ⟨Cert.Kernel.Gen.facts, Cert.KernelIdeal.Gen.facts, Cert.ReferenceIdeal.Gen.facts,
  quiet_kernel, quiet_ideal, quiet_reference, trivial, same_sum⟩

end Cert.Proof

end
